-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S_ : Shape := ⟨0, ![]⟩
abbrev S1000 : Shape := ⟨1, ![1000]⟩
abbrev S1000x1 : Shape := ⟨2, ![1000, 1]⟩
abbrev S1000x4 : Shape := ⟨2, ![1000, 4]⟩
abbrev S1024x4 : Shape := ⟨2, ![1024, 4]⟩
abbrev S1 : Shape := ⟨1, ![1]⟩
abbrev S1x1000 : Shape := ⟨2, ![1, 1000]⟩
abbrev S4x1024 : Shape := ⟨2, ![4, 1024]⟩
abbrev S100x5 : Shape := ⟨2, ![100, 5]⟩
abbrev S1024x1024 : Shape := ⟨2, ![1024, 1024]⟩
abbrev S1024x128 : Shape := ⟨2, ![1024, 128]⟩
abbrev S1x1024 : Shape := ⟨2, ![1, 1024]⟩
abbrev S1024x1 : Shape := ⟨2, ![1024, 1]⟩
abbrev S128x128 : Shape := ⟨2, ![128, 128]⟩
abbrev S1x128 : Shape := ⟨2, ![1, 128]⟩
abbrev S1x1x128 : Shape := ⟨3, ![1, 1, 128]⟩
abbrev S1x1x1 : Shape := ⟨3, ![1, 1, 1]⟩
abbrev S128x1024 : Shape := ⟨2, ![128, 1024]⟩
abbrev S1000x1000 : Shape := ⟨2, ![1000, 1000]⟩
abbrev S1x1x1000 : Shape := ⟨3, ![1, 1, 1000]⟩
abbrev S100x1000 : Shape := ⟨2, ![100, 1000]⟩
abbrev S100x4 : Shape := ⟨2, ![100, 4]⟩
abbrev S100x1 : Shape := ⟨2, ![100, 1]⟩

abbrev nBuf : Space → Nat
  | .hbm => 29
  | .vmem => 7
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .f32⟩
  | .hbm, ⟨3, _⟩ => ⟨S20000, .f32⟩
  | .hbm, ⟨4, _⟩ => ⟨S_, .f32⟩
  | .hbm, ⟨5, _⟩ => ⟨S20000, .f32⟩
  | .hbm, ⟨6, _⟩ => ⟨S20000, .f32⟩
  | .hbm, ⟨7, _⟩ => ⟨S_, .f32⟩
  | .hbm, ⟨8, _⟩ => ⟨S20000, .f32⟩
  | .hbm, ⟨9, _⟩ => ⟨S20000, .f32⟩
  | .hbm, ⟨10, _⟩ => ⟨S1000, .f32⟩
  | .hbm, ⟨11, _⟩ => ⟨S1000, .i32⟩
  | .hbm, ⟨12, _⟩ => ⟨S_, .i32⟩
  | .hbm, ⟨13, _⟩ => ⟨S1000, .i32⟩
  | .hbm, ⟨14, _⟩ => ⟨S1000, .i1⟩
  | .hbm, ⟨15, _⟩ => ⟨S_, .i32⟩
  | .hbm, ⟨16, _⟩ => ⟨S1000, .i32⟩
  | .hbm, ⟨17, _⟩ => ⟨S1000, .i32⟩
  | .hbm, ⟨18, _⟩ => ⟨S1000, .i32⟩
  | .hbm, ⟨19, _⟩ => ⟨S1000x1, .i32⟩
  | .hbm, ⟨20, _⟩ => ⟨S1000x4, .f32⟩
  | .hbm, ⟨21, _⟩ => ⟨S_, .f32⟩
  | .hbm, ⟨22, _⟩ => ⟨S1024x4, .f32⟩
  | .hbm, ⟨23, _⟩ => ⟨S_, .i32⟩
  | .hbm, ⟨24, _⟩ => ⟨S1, .i32⟩
  | .hbm, ⟨25, _⟩ => ⟨S1024x4, .f32⟩
  | .hbm, ⟨26, _⟩ => ⟨S1x1000, .f32⟩
  | .hbm, ⟨27, _⟩ => ⟨S4x1024, .f32⟩
  | .hbm, ⟨28, _⟩ => ⟨S100x5, .f32⟩
  | .local _ .vmem, ⟨0, _⟩ => ⟨S1x1000, .f32⟩
  | .local _ .vmem, ⟨1, _⟩ => ⟨S1024x4, .f32⟩
  | .local _ .vmem, ⟨2, _⟩ => ⟨S4x1024, .f32⟩
  | .local _ .vmem, ⟨3, _⟩ => ⟨S100x5, .f32⟩
  | .local _ .vmem, ⟨4, _⟩ => ⟨S1024x1024, .f32⟩
  | .local _ .vmem, ⟨5, _⟩ => ⟨S1024x128, .f32⟩
  | .local _ .vmem, ⟨6, _⟩ => ⟨S1x1024, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v125 : BitVec 32 := Scalar.addi c0_i32 c128_i32
  let c1_i32 : BitVec 32 := 1#32
  ⟨c0_i32, v125, c1_i32⟩
def k0_off1 (k0_t1 : Fin k0_t1_loop.trips) : Fin 2 → Nat :=
  let c0_i32_193 : BitVec 32 := 0#32
  let c0_i32 : BitVec 32 := 0#32
  let c1_i32 : BitVec 32 := 1#32
  let arg7 : BitVec 32 := Scf.iv c0_i32 c1_i32 k0_t1
  let v306 : BitVec 32 := Scalar.addi c0_i32_193 arg7
  let v307 : Index := Scalar.indexCast v306
  let c0_194 : Index := 0#32
  ![v307.toNat, 0]
@[reducible] def k0_t2_loop : Scf.Loop 32 :=
  let c0_i32_67 : BitVec 32 := 0#32
  let c128_i32_68 : BitVec 32 := 128#32
  let v142 : BitVec 32 := Scalar.addi c0_i32_67 c128_i32_68
  let c1_i32_69 : BitVec 32 := 1#32
  ⟨c0_i32_67, v142, c1_i32_69⟩
def k0_off2 (k0_t2 : Fin k0_t2_loop.trips) : Fin 2 → Nat :=
  let c128_i32_193 : BitVec 32 := 128#32
  let c0_i32_67 : BitVec 32 := 0#32
  let c1_i32_69 : BitVec 32 := 1#32
  let arg7 : BitVec 32 := Scf.iv c0_i32_67 c1_i32_69 k0_t2
  let v306 : BitVec 32 := Scalar.addi c128_i32_193 arg7
  let v307 : Index := Scalar.indexCast v306
  let c0_194 : Index := 0#32
  ![v307.toNat, 0]
@[reducible] def k0_t3_loop : Scf.Loop 32 :=
  let c0_i32_83 : BitVec 32 := 0#32
  let c128_i32_84 : BitVec 32 := 128#32
  let v159 : BitVec 32 := Scalar.addi c0_i32_83 c128_i32_84
  let c1_i32_85 : BitVec 32 := 1#32
  ⟨c0_i32_83, v159, c1_i32_85⟩
def k0_off3 (k0_t3 : Fin k0_t3_loop.trips) : Fin 2 → Nat :=
  let c256_i32 : BitVec 32 := 256#32
  let c0_i32_83 : BitVec 32 := 0#32
  let c1_i32_85 : BitVec 32 := 1#32
  let arg7 : BitVec 32 := Scf.iv c0_i32_83 c1_i32_85 k0_t3
  let v306 : BitVec 32 := Scalar.addi c256_i32 arg7
  let v307 : Index := Scalar.indexCast v306
  let c0_193 : Index := 0#32
  ![v307.toNat, 0]
@[reducible] def k0_t4_loop : Scf.Loop 32 :=
  let c0_i32_99 : BitVec 32 := 0#32
  let c128_i32_100 : BitVec 32 := 128#32
  let v176 : BitVec 32 := Scalar.addi c0_i32_99 c128_i32_100
  let c1_i32_101 : BitVec 32 := 1#32
  ⟨c0_i32_99, v176, c1_i32_101⟩
def k0_off4 (k0_t4 : Fin k0_t4_loop.trips) : Fin 2 → Nat :=
  let c384_i32 : BitVec 32 := 384#32
  let c0_i32_99 : BitVec 32 := 0#32
  let c1_i32_101 : BitVec 32 := 1#32
  let arg7 : BitVec 32 := Scf.iv c0_i32_99 c1_i32_101 k0_t4
  let v306 : BitVec 32 := Scalar.addi c384_i32 arg7
  let v307 : Index := Scalar.indexCast v306
  let c0_193 : Index := 0#32
  ![v307.toNat, 0]
@[reducible] def k0_t5_loop : Scf.Loop 32 :=
  let c0_i32_115 : BitVec 32 := 0#32
  let c128_i32_116 : BitVec 32 := 128#32
  let v193 : BitVec 32 := Scalar.addi c0_i32_115 c128_i32_116
  let c1_i32_117 : BitVec 32 := 1#32
  ⟨c0_i32_115, v193, c1_i32_117⟩
def k0_off5 (k0_t5 : Fin k0_t5_loop.trips) : Fin 2 → Nat :=
  let c512_i32 : BitVec 32 := 512#32
  let c0_i32_115 : BitVec 32 := 0#32
  let c1_i32_117 : BitVec 32 := 1#32
  let arg7 : BitVec 32 := Scf.iv c0_i32_115 c1_i32_117 k0_t5
  let v306 : BitVec 32 := Scalar.addi c512_i32 arg7
  let v307 : Index := Scalar.indexCast v306
  let c0_193 : Index := 0#32
  ![v307.toNat, 0]
@[reducible] def k0_t6_loop : Scf.Loop 32 :=
  let c0_i32_131 : BitVec 32 := 0#32
  let c128_i32_132 : BitVec 32 := 128#32
  let v210 : BitVec 32 := Scalar.addi c0_i32_131 c128_i32_132
  let c1_i32_133 : BitVec 32 := 1#32
  ⟨c0_i32_131, v210, c1_i32_133⟩
def k0_off6 (k0_t6 : Fin k0_t6_loop.trips) : Fin 2 → Nat :=
  let c640_i32 : BitVec 32 := 640#32
  let c0_i32_131 : BitVec 32 := 0#32
  let c1_i32_133 : BitVec 32 := 1#32
  let arg7 : BitVec 32 := Scf.iv c0_i32_131 c1_i32_133 k0_t6
  let v306 : BitVec 32 := Scalar.addi c640_i32 arg7
  let v307 : Index := Scalar.indexCast v306
  let c0_193 : Index := 0#32
  ![v307.toNat, 0]
@[reducible] def k0_t7_loop : Scf.Loop 32 :=
  let c0_i32_147 : BitVec 32 := 0#32
  let c128_i32_148 : BitVec 32 := 128#32
  let v227 : BitVec 32 := Scalar.addi c0_i32_147 c128_i32_148
  let c1_i32_149 : BitVec 32 := 1#32
  ⟨c0_i32_147, v227, c1_i32_149⟩
def k0_off7 (k0_t7 : Fin k0_t7_loop.trips) : Fin 2 → Nat :=
  let c768_i32 : BitVec 32 := 768#32
  let c0_i32_147 : BitVec 32 := 0#32
  let c1_i32_149 : BitVec 32 := 1#32
  let arg7 : BitVec 32 := Scf.iv c0_i32_147 c1_i32_149 k0_t7
  let v306 : BitVec 32 := Scalar.addi c768_i32 arg7
  let v307 : Index := Scalar.indexCast v306
  let c0_193 : Index := 0#32
  ![v307.toNat, 0]
@[reducible] def k0_t8_loop : Scf.Loop 32 :=
  let c0_i32_163 : BitVec 32 := 0#32
  let c128_i32_164 : BitVec 32 := 128#32
  let v244 : BitVec 32 := Scalar.addi c0_i32_163 c128_i32_164
  let c1_i32_165 : BitVec 32 := 1#32
  ⟨c0_i32_163, v244, c1_i32_165⟩
def k0_off8 (k0_t8 : Fin k0_t8_loop.trips) : Fin 2 → Nat :=
  let c896_i32 : BitVec 32 := 896#32
  let c0_i32_163 : BitVec 32 := 0#32
  let c1_i32_165 : BitVec 32 := 1#32
  let arg7 : BitVec 32 := Scf.iv c0_i32_163 c1_i32_165 k0_t8
  let v306 : BitVec 32 := Scalar.addi c896_i32 arg7
  let v307 : Index := Scalar.indexCast v306
  let c0_193 : Index := 0#32
  ![v307.toNat, 0]
abbrev stage0_0 : Fin 1 → Memref sig .tc .vmem S1x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 182
  | .vmem => 0
  | .smem => 0
  | _ => 0

abbrev hbmTy0_0 (i : Nat) : BufTy := match i % 128 with
  | 0 => ⟨S20000x4, .f32⟩
  | 1 => ⟨S20000, .f32⟩
  | 2 => ⟨S20000, .f32⟩
  | 3 => ⟨S20000, .f32⟩
  | 4 => ⟨S_, .f32⟩
  | 5 => ⟨S20000, .f32⟩
  | 6 => ⟨S20000, .f32⟩
  | 7 => ⟨S_, .f32⟩
  | 8 => ⟨S20000, .f32⟩
  | 9 => ⟨S20000, .f32⟩
  | 10 => ⟨S1000, .f32⟩
  | 11 => ⟨S1000, .i32⟩
  | 12 => ⟨S_, .i32⟩
  | 13 => ⟨S1000, .i32⟩
  | 14 => ⟨S1000, .i1⟩
  | 15 => ⟨S_, .i32⟩
  | 16 => ⟨S1000, .i32⟩
  | 17 => ⟨S1000, .i32⟩
  | 18 => ⟨S1000, .i32⟩
  | 19 => ⟨S1000x1, .i32⟩
  | 20 => ⟨S1000x4, .f32⟩
  | 21 => ⟨S1000x1, .f32⟩
  | 22 => ⟨S1000, .f32⟩
  | 23 => ⟨S_, .f32⟩
  | 24 => ⟨S_, .f32⟩
  | 25 => ⟨S_, .f32⟩
  | 26 => ⟨S1000, .f32⟩
  | 27 => ⟨S1000, .f32⟩
  | 28 => ⟨S_, .f32⟩
  | 29 => ⟨S1000, .f32⟩
  | 30 => ⟨S1000, .f32⟩
  | 31 => ⟨S1000x1, .f32⟩
  | 32 => ⟨S1000, .f32⟩
  | 33 => ⟨S_, .f32⟩
  | 34 => ⟨S_, .f32⟩
  | 35 => ⟨S_, .f32⟩
  | 36 => ⟨S1000, .f32⟩
  | 37 => ⟨S1000, .f32⟩
  | 38 => ⟨S_, .f32⟩
  | 39 => ⟨S1000, .f32⟩
  | 40 => ⟨S1000, .f32⟩
  | 41 => ⟨S1000x1, .f32⟩
  | 42 => ⟨S1000, .f32⟩
  | 43 => ⟨S_, .f32⟩
  | 44 => ⟨S_, .f32⟩
  | 45 => ⟨S_, .f32⟩
  | 46 => ⟨S1000, .f32⟩
  | 47 => ⟨S1000, .f32⟩
  | 48 => ⟨S_, .f32⟩
  | 49 => ⟨S1000, .f32⟩
  | 50 => ⟨S1000, .f32⟩
  | 51 => ⟨S1000x1, .f32⟩
  | 52 => ⟨S1000, .f32⟩
  | 53 => ⟨S_, .f32⟩
  | 54 => ⟨S_, .f32⟩
  | 55 => ⟨S_, .f32⟩
  | 56 => ⟨S1000, .f32⟩
  | 57 => ⟨S1000, .f32⟩
  | 58 => ⟨S_, .f32⟩
  | 59 => ⟨S1000, .f32⟩
  | 60 => ⟨S1000, .f32⟩
  | 61 => ⟨S1000x1, .f32⟩
  | 62 => ⟨S1000x1, .f32⟩
  | 63 => ⟨S1000x1, .f32⟩
  | 64 => ⟨S1000x1, .f32⟩
  | 65 => ⟨S1000x4, .f32⟩
  | 66 => ⟨S_, .f32⟩
  | 67 => ⟨S1000, .f32⟩
  | 68 => ⟨S1000, .i1⟩
  | 69 => ⟨S1000, .f32⟩
  | 70 => ⟨S1000, .f32⟩
  | 71 => ⟨S1000x1, .f32⟩
  | 72 => ⟨S1000, .f32⟩
  | 73 => ⟨S1000x1, .f32⟩
  | 74 => ⟨S1000, .f32⟩
  | 75 => ⟨S1000, .f32⟩
  | 76 => ⟨S1000x1, .f32⟩
  | 77 => ⟨S1000, .f32⟩
  | 78 => ⟨S1000x1, .f32⟩
  | 79 => ⟨S1000, .f32⟩
  | 80 => ⟨S1000, .f32⟩
  | 81 => ⟨S1000, .f32⟩
  | 82 => ⟨S1000x2, .f32⟩
  | 83 => ⟨S1000x1x2, .f32⟩
  | 84 => ⟨S1000x2, .f32⟩
  | 85 => ⟨S1x1000x2, .f32⟩
  | 86 => ⟨S1000x1000x2, .f32⟩
  | 87 => ⟨S1000x1000x2, .f32⟩
  | 88 => ⟨S1000x1000x2, .f32⟩
  | 89 => ⟨S1000x2, .f32⟩
  | 90 => ⟨S1000x1x2, .f32⟩
  | 91 => ⟨S1000x2, .f32⟩
  | 92 => ⟨S1x1000x2, .f32⟩
  | 93 => ⟨S1000x1000x2, .f32⟩
  | 94 => ⟨S1000x1000x2, .f32⟩
  | 95 => ⟨S1000x1000x2, .f32⟩
  | 96 => ⟨S1000x1000x2, .f32⟩
  | 97 => ⟨S_, .f32⟩
  | 98 => ⟨S_, .f32⟩
  | 99 => ⟨S1000x1000x2, .f32⟩
  | 100 => ⟨S1000x1000x2, .f32⟩
  | 101 => ⟨S1000x1000x1, .f32⟩
  | 102 => ⟨S1000x1000, .f32⟩
  | 103 => ⟨S1000x1000x1, .f32⟩
  | 104 => ⟨S1000x1000, .f32⟩
  | 105 => ⟨S1000x1000, .f32⟩
  | 106 => ⟨S1000x1, .f32⟩
  | 107 => ⟨S1x1000, .f32⟩
  | 108 => ⟨S1000x1000, .f32⟩
  | 109 => ⟨S1000x1000, .f32⟩
  | 110 => ⟨S1000x1000, .f32⟩
  | 111 => ⟨S1000x1000, .f32⟩
  | 112 => ⟨S_, .f32⟩
  | 113 => ⟨S1000x1000, .f32⟩
  | 114 => ⟨S1000x1000, .f32⟩
  | 115 => ⟨S1000x1000, .f32⟩
  | 116 => ⟨S1000, .i32⟩
  | 117 => ⟨S_, .i1⟩
  | 118 => ⟨S1000, .i1⟩
  | 119 => ⟨S_, .i32⟩
  | 120 => ⟨S_, .i32⟩
  | 121 => ⟨S1000x1000, .f32⟩
  | 122 => ⟨S1000, .i32⟩
  | 123 => ⟨S_, .i32⟩
  | 124 => ⟨S_, .i32⟩
  | 125 => ⟨S1000, .i1⟩
  | 126 => ⟨S_, .i32⟩
  | 127 => ⟨S_, .i1⟩
  | _ => ⟨S20000x4, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x1000, .f32⟩
  | 17 => ⟨S1000, .f32⟩
  | 18 => ⟨S_, .f32⟩
  | 19 => ⟨S1000, .f32⟩
  | 20 => ⟨S1000, .i1⟩
  | 21 => ⟨S_, .i32⟩
  | 22 => ⟨S1000, .i32⟩
  | 23 => ⟨S1000, .i1⟩
  | 24 => ⟨S1000, .i1⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1, .i1⟩
  | 32 => ⟨S_, .i1⟩
  | 33 => ⟨S1000, .i1⟩
  | 34 => ⟨S1000, .i1⟩
  | 35 => ⟨S1000, .i1⟩
  | 36 => ⟨S1000, .i1⟩
  | 37 => ⟨S_, .i32⟩
  | 38 => ⟨S_, .i32⟩
  | 39 => ⟨S1000, .f32⟩
  | 40 => ⟨S1000, .f32⟩
  | 41 => ⟨S100, .f32⟩
  | 42 => ⟨S100, .i32⟩
  | 43 => ⟨S_, .i32⟩
  | 44 => ⟨S100, .i32⟩
  | 45 => ⟨S100, .i1⟩
  | 46 => ⟨S_, .i32⟩
  | 47 => ⟨S100, .i32⟩
  | 48 => ⟨S100, .i32⟩
  | 49 => ⟨S100, .i32⟩
  | 50 => ⟨S100x1, .i32⟩
  | 51 => ⟨S100x4, .f32⟩
  | 52 => ⟨S100x1, .f32⟩
  | 53 => ⟨S100x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_values : Ref sig .tc := ⟨.hbm, 10, rfl⟩
abbrev main_indices : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_cst_7 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_10 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_12 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_13 : Ref sig .tc := ⟨.hbm, 117, rfl⟩
abbrev main_v76 : Ref sig .tc := ⟨.hbm, 118, rfl⟩
abbrev main_c_14 : Ref sig .tc := ⟨.hbm, 119, rfl⟩
abbrev main_c_15 : Ref sig .tc := ⟨.hbm, 120, rfl⟩
abbrev main_v77_0 : Ref sig .tc := ⟨.hbm, 121, rfl⟩
abbrev main_v77_1 : Ref sig .tc := ⟨.hbm, 122, rfl⟩
abbrev main_v77_2 : Ref sig .tc := ⟨.hbm, 123, rfl⟩
abbrev main_v77_3 : Ref sig .tc := ⟨.hbm, 124, rfl⟩
abbrev main_v77_4 : Ref sig .tc := ⟨.hbm, 125, rfl⟩
abbrev main_while0c_c_24 : Ref sig .tc := ⟨.hbm, 126, rfl⟩
abbrev main_while0c_v89 : Ref sig .tc := ⟨.hbm, 127, rfl⟩
abbrev main_while0b_c_24 : Ref sig .tc := ⟨.hbm, 128, rfl⟩
abbrev main_while0b_v89 : Ref sig .tc := ⟨.hbm, 129, rfl⟩
abbrev main_while0b_v90 : Ref sig .tc := ⟨.hbm, 130, rfl⟩
abbrev main_while0b_c_25 : Ref sig .tc := ⟨.hbm, 131, rfl⟩
abbrev main_while0b_v91 : Ref sig .tc := ⟨.hbm, 132, rfl⟩
abbrev main_while0b_c_26 : Ref sig .tc := ⟨.hbm, 133, rfl⟩
abbrev main_while0b_v92 : Ref sig .tc := ⟨.hbm, 134, rfl⟩
abbrev main_while0b_v93 : Ref sig .tc := ⟨.hbm, 135, rfl⟩
abbrev main_while0b_c_27 : Ref sig .tc := ⟨.hbm, 136, rfl⟩
abbrev main_while0b_c_28 : Ref sig .tc := ⟨.hbm, 137, rfl⟩
abbrev main_while0b_v94 : Ref sig .tc := ⟨.hbm, 138, rfl⟩
abbrev main_while0b_c_29 : Ref sig .tc := ⟨.hbm, 139, rfl⟩
abbrev main_while0b_c_30 : Ref sig .tc := ⟨.hbm, 140, rfl⟩
abbrev main_while0b_v95 : Ref sig .tc := ⟨.hbm, 141, rfl⟩
abbrev main_while0b_c_31 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_cst_32 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_c_33 : Ref sig .tc := ⟨.hbm, 153, rfl⟩
abbrev main_while0b_v105 : Ref sig .tc := ⟨.hbm, 154, rfl⟩
abbrev main_while0b_v106 : Ref sig .tc := ⟨.hbm, 155, rfl⟩
abbrev main_while0b_c_34 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_c_35 : Ref sig .tc := ⟨.hbm, 165, rfl⟩
abbrev main_while0b_v115 : Ref sig .tc := ⟨.hbm, 166, rfl⟩
abbrev main_v78 : Ref sig .tc := ⟨.hbm, 167, rfl⟩
abbrev main_v79 : Ref sig .tc := ⟨.hbm, 168, rfl⟩
abbrev main_values_16 : Ref sig .tc := ⟨.hbm, 169, rfl⟩
abbrev main_indices_17 : Ref sig .tc := ⟨.hbm, 170, rfl⟩
abbrev main_c_18 : Ref sig .tc := ⟨.hbm, 171, rfl⟩
abbrev main_v80 : Ref sig .tc := ⟨.hbm, 172, rfl⟩
abbrev main_v81 : Ref sig .tc := ⟨.hbm, 173, rfl⟩
abbrev main_c_19 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩

abbrev nD : Nat := 1
abbrev τ : Topo := Topo.v7x

variable {F : FTy → Type} [FloatOps F]

abbrev main_while0_count : Scf.Loop 32 := ⟨0#32, 1000#32, 1#32⟩
-- ==== Proof.Greedy.lean ====
/-
  Greedy suppression, as plain mathematics: candidates 0, 1, 2, … are visited in order; candidate `i`, if it is still
  kept when its turn comes, removes every `j` with `M i j`. The relation `M` always points forward (`M i j → i < j`).

  `kept M n j`: is `j` still kept after the first `n` candidates were visited?

  The kernel visits the candidates in blocks; `kept_add` and `kept_block` say what a whole block does at once.
  `ind P` is the extended real 1 or 0 that both programs use for a truth value; the lemmas on it are the few identities
  by which the kernel computes with truth values as numbers.
-/
module

public import Mathlib.Data.EReal.Operations
public import Mathlib.Algebra.BigOperators.Group.Finset.Basic
public import Mathlib.Algebra.Order.BigOperators.Group.Finset
public import Idealize.ShloMosaic.PureOps.Ideal

@[expose] public section

noncomputable section

namespace Cert.Nms

open scoped BigOperators

/-! ## Truth values as extended reals -/

open Classical in
/-- The extended real 1 where `P` holds, 0 where it does not. -/
def ind (P : Prop) : EReal := if P then 1 else 0

/-- The number of a true statement is 1. -/
theorem ind_true {P : Prop} (h : P) : ind P = 1 := if_pos h

/-- The number of a false statement is 0. -/
theorem ind_false {P : Prop} (h : ¬P) : ind P = 0 := if_neg h

/-- Equivalent statements have the same number. -/
theorem ind_congr {P Q : Prop} (h : P ↔ Q) : ind P = ind Q := by rw [propext h]

/-- The number of a statement is positive exactly if it is true. -/
theorem ind_pos_iff {P : Prop} : 0 < ind P ↔ P := by
  by_cases h : P
  · rw [ind_true h]; exact ⟨fun _ => h, fun _ => zero_lt_one⟩
  · rw [ind_false h]; exact ⟨fun h' => absurd h' (lt_irrefl _), fun h' => absurd h' h⟩

/-- The number of a statement is never negative. -/
theorem ind_nonneg (P : Prop) : 0 ≤ ind P := by
  by_cases h : P
  · rw [ind_true h]; exact zero_le_one
  · rw [ind_false h]

/-- A product of such numbers is the number of the conjunction. -/
theorem ind_mul (P Q : Prop) : ind P * ind Q = ind (P ∧ Q) := by
  by_cases hP : P <;> by_cases hQ : Q <;> simp [ind, hP, hQ]

/-- One minus the number of a statement is the number of its negation. -/
theorem one_sub_ind (P : Prop) : (1 : EReal) - ind P = ind (¬P) := by
  by_cases hP : P
  · rw [ind_true hP, ind_false (not_not.mpr hP)]
    exact EReal.sub_self (by decide) (by decide)
  · rw [ind_false hP, ind_true hP, sub_zero]

/-- Removing by arithmetic: `p * (1 - q * r)` is 1 exactly where `p` holds and `q`, `r` do not both hold. -/
theorem ind_remove (P Q R : Prop) : ind P * (1 - ind Q * ind R) = ind (P ∧ ¬(Q ∧ R)) := by
  rw [ind_mul, one_sub_ind, ind_mul]

/-- A sum of truth values is not positive exactly when none of them holds. -/
theorem sum_ind_le_zero {ι : Type} [Fintype ι] (P : ι → Prop) : ∑ i, ind (P i) ≤ 0 ↔ ∀ i, ¬P i := by
  constructor
  · intro h i hi
    have h1 : ind (P i) ≤ ∑ k, ind (P k) :=
      Finset.single_le_sum (f := fun k => ind (P k)) (fun k _ => ind_nonneg _) (Finset.mem_univ i)
    rw [ind_true hi] at h1
    exact absurd (h1.trans h) (by simp)
  · intro h
    rw [Finset.sum_eq_zero fun i _ => ind_false (h i)]

/-- A sum against a one-hot weight on the right is the selected entry. -/
theorem sum_mul_ind_eq {ι : Type} [Fintype ι] (x : ι → EReal) (P : ι → Prop) (i : ι) (h : ∀ k, P k ↔ k = i) :
    ∑ k, x k * ind (P k) = x i := by
  rw [Finset.sum_eq_single i]
  · rw [ind_true ((h i).mpr rfl), mul_one]
  · intro k _ hk
    rw [ind_false fun hP => hk ((h k).mp hP), mul_zero]
  · intro hi
    exact absurd (Finset.mem_univ i) hi

/-- A sum against a one-hot weight on the left is the selected entry. -/
theorem sum_ind_mul_eq {ι : Type} [Fintype ι] (x : ι → EReal) (P : ι → Prop) (i : ι) (h : ∀ k, P k ↔ k = i) :
    ∑ k, ind (P k) * x k = x i := by
  simp only [mul_comm (ind _)]
  exact sum_mul_ind_eq x P i h

open Classical in
/-- A sum of truth values counts. -/
theorem sum_ind_eq_card {ι : Type} [Fintype ι] (P : ι → Prop) :
    ∑ i, ind (P i) = (((Finset.univ.filter P).card : ℕ) : EReal) := by
  unfold ind
  rw [Finset.sum_ite]
  simp

/-! ## The sequential suppression -/

/-- Is `j` still kept after candidates `0 … n-1` were visited? -/
def kept (M : ℕ → ℕ → Prop) : ℕ → ℕ → Prop
  | 0, _ => True
  | n + 1, j => kept M n j ∧ ¬(M n j ∧ kept M n n)

variable {M : ℕ → ℕ → Prop}

/-- Before any visit every candidate is kept. -/
theorem kept_zero (j : ℕ) : kept M 0 j := trivial

/-- What one more visit leaves. -/
theorem kept_succ (n j : ℕ) : kept M (n + 1) j ↔ kept M n j ∧ ¬(M n j ∧ kept M n n) := Iff.rfl

/-- Visiting candidates from `j` on does not change whether `j` is kept. -/
theorem kept_of_le (hM : ∀ i j, M i j → i < j) {n j : ℕ} (h : j ≤ n) : kept M n j ↔ kept M j j := by
  induction n, h using Nat.le_induction with
  | base => rfl
  | succ n hn ih =>
    rw [kept_succ, ih]
    exact ⟨fun h => h.1, fun h => ⟨h, fun h' => absurd (hM _ _ h'.1) (by omega)⟩⟩

/-- What visiting `d` further candidates does: `j` stays kept unless one of them is kept itself and suppresses it. -/
theorem kept_add (hM : ∀ i j, M i j → i < j) (n d j : ℕ) :
    kept M (n + d) j ↔ kept M n j ∧ ∀ i < d, ¬(kept M (n + d) (n + i) ∧ M (n + i) j) := by
  have key : ∀ e, e ≤ d → (kept M (n + e) j ↔ kept M n j ∧ ∀ i < e, ¬(kept M (n + d) (n + i) ∧ M (n + i) j)) := by
    intro e
    induction e with
    | zero => intro _; simp
    | succ e ih =>
      intro he
      rw [show n + (e + 1) = n + e + 1 from rfl, kept_succ, ih (by omega)]
      have h1 : kept M (n + d) (n + e) ↔ kept M (n + e) (n + e) := kept_of_le hM (by omega)
      constructor
      · rintro ⟨⟨h0, hi⟩, hlast⟩
        refine ⟨h0, fun i hie => ?_⟩
        rcases Nat.lt_succ_iff_lt_or_eq.mp hie with h | rfl
        · exact hi i h
        · exact fun h => hlast ⟨h.2, h1.mp h.1⟩
      · rintro ⟨h0, hi⟩
        exact ⟨⟨h0, fun i hie => hi i (by omega)⟩, fun h => hi e (by omega) ⟨h1.mpr h.2, h.1⟩⟩
  exact key d le_rfl

/-- Two relations that agree on the candidates below `m` keep the same candidates below `m`. -/
theorem kept_congr {M' : ℕ → ℕ → Prop} (m : ℕ) (h : ∀ i j, i < m → j < m → (M i j ↔ M' i j)) :
    ∀ n j, n ≤ m → j < m → (kept M n j ↔ kept M' n j)
  | 0, _, _, _ => Iff.rfl
  | n + 1, j, hn, hj => by
    rw [kept_succ, kept_succ, kept_congr m h n j (by omega) hj, kept_congr m h n n (by omega) (by omega),
      h n j (by omega) hj]

end Cert.Nms

end
-- ==== Proof.Boxes.lean ====
/-
  Boxes as plain mathematics, over the extended reals: a box is its four corner coordinates (left, top, right, bottom).
  `clip` cuts a box to the image, `iou` is the area of the intersection over the area of the union as both programs
  compute it, and `suppresses box i j` says that candidate `i`, if kept, removes candidate `j`.
-/
module

public import Idealize.ShloMosaic.PureOps.Ideal
public import proofs.«01_k».proof.Proof.Greedy

@[expose] public section

noncomputable section

namespace Cert.Nms

open Idealize.ShloMosaic

/-- The image's extent along the coordinate `c` of a box: width 1333 for left and right, height 800 for top and bottom. -/
def extent : Fin 4 → EReal :=
  ![Ideal.ofBits .f32 0x44A6A000#32, Ideal.ofBits .f32 0x44480000#32,
    Ideal.ofBits .f32 0x44A6A000#32, Ideal.ofBits .f32 0x44480000#32]

/-- The box cut to the image. -/
def clip (b : Fin 4 → EReal) (c : Fin 4) : EReal := min (extent c) (max 0 (b c))

/-- Width times height. -/
def area (b : Fin 4 → EReal) : EReal := (b 2 - b 0) * (b 3 - b 1)

/-- The area of the intersection of two boxes. -/
def inter (p q : Fin 4 → EReal) : EReal := max (min (p 2) (q 2) - max (p 0) (q 0)) 0 * max (min (p 3) (q 3) - max (p 1) (q 1)) 0

/-- Intersection over union; the constant keeps the quotient defined for two empty boxes. -/
def iou (p q : Fin 4 → EReal) : EReal :=
  Ideal.div (inter p q) (area p + area q - inter p q + Ideal.ofBits .f32 0x3089705F#32)

/-- The intersection of the two boxes is more than half of their union. -/
def overlaps (p q : Fin 4 → EReal) : Prop := Ideal.ofBits .f32 0x3F000000#32 < iou p q

/-- Candidate `i` comes before `j` and its clipped box overlaps that of `j`. -/
def suppresses (box : ℕ → Fin 4 → EReal) (i j : ℕ) : Prop := overlaps (clip (box i)) (clip (box j)) ∧ i < j

/-- A candidate suppresses only later ones. -/
theorem lt_of_suppresses (box : ℕ → Fin 4 → EReal) (i j : ℕ) (h : suppresses box i j) : i < j := h.2

/-! ## Reading a one-bit word as a number -/

/-- A decided bit, widened and converted to a float, is the indicator of what it decides. -/
theorem sitofp_bit (P : Prop) [Decidable P] :
    FloatOps.sitofp (F := Ideal) .f32 (BitVec.setWidth 32 (BitVec.ofBool (decide P))) = ind P := by
  show (((BitVec.setWidth 32 (BitVec.ofBool (decide P))).toInt : ℝ) : EReal) = _
  by_cases h : P
  · rw [ind_true h]; simp [h]
  · rw [ind_false h]; simp [h]

/-- The same for the host's unsigned conversion of a one-bit word. -/
theorem uitofp_bit (P : Prop) [Decidable P] :
    FloatOps.uitofp (F := Ideal) .f32 (BitVec.ofBool (decide P)) = ind P := by
  show (((BitVec.ofBool (decide P)).toNat : ℝ) : EReal) = _
  by_cases h : P
  · rw [ind_true h]; simp [h]
  · rw [ind_false h]; simp [h]

/-- The threshold on scores: the f32 nearest 0.05. -/
def threshold : EReal := Ideal.ofBits .f32 0x3D4CCCCD#32

/-- The score threshold is positive. -/
theorem threshold_pos : 0 < threshold := by
  unfold threshold
  simp [Ideal.ofBits, Ideal.ieee, -EReal.coe_mul]

end Cert.Nms

end
-- ==== Proof.Order.lean ====
/-
  The k greatest of a table, in order, and its positions: what `chlo.top_k` returns over the extended reals.

  `before x a b`: entry `a` comes before entry `b` — it is greater, or equal and at the lower position.
  `rank x j`: how many entries come before entry `j`.
  `pick x`: the sorting permutation: `pick x r` is the position of the entry that comes `r`-th.

  `rank_pick` and `eq_pick_iff`: position `j` is `pick x r` exactly when its rank is `r`. That is all a comparison with
  another way of ranking needs.
-/
module

public import Mathlib.Data.EReal.Operations
public import Idealize.ShloMosaic.PureOps.Ideal
public import Idealize.ShloMosaic.Lib.SortFacts
public import Idealize.ShloMosaic.Lib.ValueIdxCore
public import proofs.«01_k».proof.Proof.Greedy

@[expose] public section

noncomputable section

namespace Cert.Nms

open Idealize.ShloMosaic

variable {n : ℕ}

/-- Entry `a` comes before entry `b`: it is greater, or equal and at the lower position. -/
def before (x : Fin n → EReal) (a b : Fin n) : Prop := x b < x a ∨ (x a = x b ∧ a < b)

/-- No entry comes before itself. -/
theorem before_irrefl (x : Fin n → EReal) (a : Fin n) : ¬before x a a := by
  rintro (h | h)
  · exact lt_irrefl _ h
  · exact lt_irrefl _ h.2

/-- The order is transitive. -/
theorem before_trans (x : Fin n → EReal) {a b c : Fin n} (h : before x a b) (h' : before x b c) : before x a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

/-- Of two entries one comes before the other. -/
theorem before_total (x : Fin n → EReal) {a b : Fin n} (h : a ≠ b) : before x a b ∨ before x b a := by
  rcases lt_trichotomy (x a) (x b) with h' | h' | h'
  · exact .inr (.inl h')
  · rcases lt_or_gt_of_ne h with h'' | h''
    · exact .inl (.inr ⟨h', h''⟩)
    · exact .inr (.inr ⟨h'.symm, h''⟩)
  · exact .inl (.inl h')

/-- Two entries do not come before each other. -/
theorem before_asymm (x : Fin n → EReal) {a b : Fin n} (h : before x a b) : ¬before x b a :=
  fun h' => before_irrefl x a (before_trans x h h')

open Classical in
/-- How many entries come before entry `j`. -/
def rank (x : Fin n → EReal) (j : Fin n) : ℕ := (Finset.univ.filter fun a => before x a j).card

/-- The comparison the sort is given: greater, by the order of the extended reals. -/
def greater (x : Fin n → EReal) (a b : Fin n) : Bool :=
  FloatOps.cmpfTotal (F := Ideal) (φ := .f32) .gt (x a) (x b) == 1#1

/-- The position of the entry a stable sort by `greater` puts at place `r`. -/
def pick (x : Fin n → EReal) (r : Fin n) : Fin n := sortedFrom (greater x) r

/-- The sort's comparison of two entries is the order of the extended reals. -/
theorem greater_iff (x : Fin n → EReal) (a b : Fin n) : greater x a b = true ↔ x b < x a := by
  unfold greater
  rw [beq_iff_eq]
  show BitVec.ofBool (decide (x b < x a)) = 1#1 ↔ _
  by_cases h : x b < x a <;> simp [h]

open Classical in
/-- On a list of positions in increasing order, a stable sort by `greater` is the sort by `before`. -/
theorem stableSort_greater (x : Fin n → EReal) : ∀ l : List (Fin n), l.Pairwise (· < ·) →
    stableSort (greater x) l = stableSort (fun a b => decide (before x a b)) l
  | [], _ => rfl
  | a :: l, h => by
    obtain ⟨ha, hl⟩ := List.pairwise_cons.mp h
    unfold stableSort
    rw [stableSort_greater x l hl]
    refine insertBefore_congr _ _ a _ fun b hb => ?_
    have hb' : a < b := ha b ((perm_stableSort _ l).mem_iff.mp hb)
    rw [Bool.eq_iff_iff, greater_iff, decide_eq_true_iff]
    exact ⟨fun h => .inl h, fun h => h.elim id fun h => absurd (hb'.trans h.2) (lt_irrefl _)⟩

/-- Each place is used once. -/
theorem pick_injective (x : Fin n → EReal) : Function.Injective (pick x) := sortedFrom_injective _

/-- Every position is picked. -/
theorem pick_surjective (x : Fin n → EReal) : Function.Surjective (pick x) := sortedFrom_surjective _

open Classical in
/-- Places are in order: what is put at an earlier place comes before what is put at a later one. -/
theorem before_pick (x : Fin n → EReal) {r r' : Fin n} (h : r < r') : before x (pick x r) (pick x r') := by
  have e : pick x = sortedFrom (fun a b => decide (before x a b)) := by
    funext k
    have e' : sortPositions n (greater x) = sortPositions n (fun a b => decide (before x a b)) :=
      stableSort_greater x _ (List.pairwise_lt_finRange n)
    unfold pick sortedFrom
    generalize_proofs h1 h2
    revert h1 h2
    rw [e']
    intro _ _
    rfl
  have hne : pick x r ≠ pick x r' := fun h' => (lt_irrefl _ ((pick_injective x h') ▸ h))
  have hno := sortedFrom_noInversion (fun a b => decide (before x a b)) (fun a b => decide (before x a b))
    (fun a b hab => by simpa using before_asymm x (by simpa using hab))
    (fun a b hab => hab) (fun a b c hab hbc => by
      simp only [decide_eq_false_iff_not] at hab hbc ⊢
      intro hac
      by_cases hba : a = b
      · exact hbc (hba ▸ hac)
      · exact hbc (before_trans x ((before_total x hba).resolve_left hab) hac)) r r' h
  rw [← e, decide_eq_false_iff_not] at hno
  exact (before_total x hne).resolve_right hno

/-- The entry at place `r` has rank `r`. -/
theorem rank_pick (x : Fin n → EReal) (r : Fin n) : rank x (pick x r) = r.val := by
  classical
  have : (Finset.univ.filter fun a => before x a (pick x r)) = (Finset.univ.filter fun k : Fin n => k < r).map ⟨pick x, pick_injective x⟩ := by
    ext a
    obtain ⟨k, rfl⟩ := pick_surjective x a
    simp only [Finset.mem_filter, Finset.mem_univ, true_and, Finset.mem_map, Function.Embedding.coeFn_mk]
    constructor
    · intro h
      refine ⟨k, ?_, rfl⟩
      rcases lt_trichotomy k r with h' | h' | h'
      · exact h'
      · exact absurd (h' ▸ h) (before_irrefl x _)
      · exact absurd h (before_asymm x (before_pick x h'))
    · rintro ⟨k', hk', e⟩
      rw [← pick_injective x e]
      exact before_pick x hk'
  unfold rank
  rw [show (Finset.univ.filter fun a => before x a (pick x r)) = _ from this, Finset.card_map]
  rw [show (Finset.univ.filter fun k : Fin n => k < r) = Finset.Iio r by ext k; simp, Fin.card_Iio]

/-- Position `j` is the one at place `r` exactly when its rank is `r`. -/
theorem rank_eq_iff (x : Fin n → EReal) (j r : Fin n) : rank x j = r.val ↔ j = pick x r := by
  constructor
  · intro h
    obtain ⟨k, rfl⟩ := pick_surjective x j
    rw [rank_pick] at h
    rw [Fin.ext h]
  · rintro rfl
    exact rank_pick x r

/-! ## The rank, counted another way -/

/-- The rank as the kernel computes it from scores `f`: a positive score's is the number of positive scores at lower
    positions; another's is the number of positive scores plus the number of others at lower positions. -/
def rankOf (f : Fin n → EReal) (j : Fin n) : EReal :=
  if 0 < f j then ∑ x, ind (0 < f x) * ind (x.val < j.val)
  else ∑ x, ind (0 < f x) + ∑ x, ind (¬0 < f x) * ind (x.val < j.val)

/-- Where no score is negative and the positive ones stand in decreasing order, the two ranks are the same. -/
theorem rankOf_eq (f : Fin n → EReal) (h0 : ∀ j, 0 ≤ f j) (hd : ∀ i j, i < j → 0 < f i → 0 < f j → f j ≤ f i) (j : Fin n) :
    rankOf f j = ((rank f j : ℕ) : EReal) := by
  classical
  unfold rankOf rank
  simp only [ind_mul, sum_ind_eq_card]
  split
  case isTrue hj =>
    congr 2
    ext a
    simp only [Finset.mem_filter, Finset.mem_univ, true_and]
    constructor
    · rintro ⟨ha, hlt⟩
      rcases (hd a j hlt ha hj).lt_or_eq with h | h
      · exact .inl h
      · exact .inr ⟨h.symm, hlt⟩
    · rintro (h | ⟨h, hlt⟩)
      · refine ⟨hj.trans h, ?_⟩
        by_contra hge
        rcases Nat.lt_or_eq_of_le (Nat.le_of_not_lt hge) with h' | h'
        · exact absurd (hd j a h' hj (hj.trans h)) (not_le_of_gt h)
        · exact absurd (Fin.ext h' ▸ h) (lt_irrefl _)
      · exact ⟨h ▸ hj, hlt⟩
  case isFalse hj =>
    have hj0 : f j = 0 := le_antisymm (le_of_not_gt hj) (h0 j)
    rw [← EReal.coe_natCast, ← EReal.coe_natCast, ← EReal.coe_natCast, ← EReal.coe_add, ← Nat.cast_add, ← Finset.card_union_of_disjoint]
    · congr 3
      ext a
      simp only [Finset.mem_union, Finset.mem_filter, Finset.mem_univ, true_and, before, hj0]
      refine or_congr Iff.rfl (and_congr_left' ?_)
      exact ⟨fun h => le_antisymm (le_of_not_gt h) (h0 a), fun h => h ▸ lt_irrefl _⟩
    · rw [Finset.disjoint_left]
      intro a ha ha'
      simp only [Finset.mem_filter] at ha ha'
      exact ha'.2.1 ha.2

/-- Converting a small whole number to a 32-bit word is exact. -/
theorem fptosi_natCast (m : ℕ) (h : m < 2 ^ 31) : Ideal.fptosi 32 ((m : ℕ) : EReal) = BitVec.ofNat 32 m := by
  rw [← EReal.coe_natCast]
  unfold Ideal.fptosi
  rw [Ideal.toIntClamped_coe, if_pos (Nat.cast_nonneg m), Int.floor_natCast]
  have h1 : min (((2 ^ (32 - 1) : ℕ) : ℤ) - 1) (m : ℤ) = m := min_eq_right (by push_cast; omega)
  have h2 : max (-((2 ^ (32 - 1) : ℕ) : ℤ)) (m : ℤ) = m := max_eq_right (by push_cast; omega)
  rw [h1, h2, BitVec.ofInt_natCast]

/-- A rank is less than the number of entries. -/
theorem rank_lt (x : Fin n → EReal) (j : Fin n) : rank x j < n := by
  obtain ⟨r, rfl⟩ := pick_surjective x j
  rw [rank_pick]
  exact r.isLt

end Cert.Nms

end
-- ==== Proof.Payloads.lean ====
/-
  What the kernel's vector expressions compute, read at an index: each payload of the kernel as arithmetic on the values
  it reads. No memory here.
-/
module

public import proofs.«01_k».proof.Proof.Gen.KernelIdeal.Frame
public import proofs.«01_k».proof.Proof.Boxes
public import proofs.«01_k».proof.Proof.Order
public import Idealize.ShloMosaic.Lib.Pointwise
public import Idealize.ShloMosaic.Lib.WordCmp

@[expose] public section

set_option maxRecDepth 16384

noncomputable section

namespace Cert.KernelIdeal.Val

open Idealize.ShloMosaic Idealize.ShloMosaic.TcCoe Idealize.ShloMosaic.Tactic Idealize.ShloMosaic.Pointwise
open Cert.KernelIdeal.Gen Cert.Nms

/-! ## The clipped columns and the mask -/

variable (x1 : Vec Ideal S1024x4 .f32) (x2 : Vec Ideal S4x1024 .f32)

/-- The column of clipped left edges. -/
theorem pay3_at (i : Fin 1024) (z : Fin 1) : k0_pay3 x1 (ix2 i z) = clip (fun c => x1 (ix2 i c)) 0 := by
  pointwise [k0_pay3, k0_pay1]
  rfl

/-- The column of clipped top edges. -/
theorem pay4_at (i : Fin 1024) (z : Fin 1) : k0_pay4 x1 (ix2 i z) = clip (fun c => x1 (ix2 i c)) 1 := by
  pointwise [k0_pay4, k0_pay1]
  rfl

/-- The column of clipped right edges. -/
theorem pay5_at (i : Fin 1024) (z : Fin 1) : k0_pay5 x1 (ix2 i z) = clip (fun c => x1 (ix2 i c)) 2 := by
  pointwise [k0_pay5, k0_pay1]
  rfl

/-- The column of clipped bottom edges. -/
theorem pay6_at (i : Fin 1024) (z : Fin 1) : k0_pay6 x1 (ix2 i z) = clip (fun c => x1 (ix2 i c)) 3 := by
  pointwise [k0_pay6, k0_pay1]
  rfl

/-- The row of clipped left edges. -/
theorem pay7_at (z : Fin 1) (j : Fin 1024) : k0_pay7 x2 (ix2 z j) = clip (fun c => x2 (ix2 c j)) 0 := by
  pointwise [k0_pay7, k0_pay2]
  rfl

/-- The row of clipped top edges. -/
theorem pay8_at (z : Fin 1) (j : Fin 1024) : k0_pay8 x2 (ix2 z j) = clip (fun c => x2 (ix2 c j)) 1 := by
  pointwise [k0_pay8, k0_pay2]
  rfl

/-- The row of clipped right edges. -/
theorem pay9_at (z : Fin 1) (j : Fin 1024) : k0_pay9 x2 (ix2 z j) = clip (fun c => x2 (ix2 c j)) 2 := by
  pointwise [k0_pay9, k0_pay2]
  rfl

/-- The row of bottom edges, before the clip. -/
theorem pay10_at (z : Fin 1) (j : Fin 1024) : k0_pay10 x2 (ix2 z j) = x2 (ix2 3 j) := by
  pointwise [k0_pay10, k0_pay2]

/-- Entry `(i, j)` of the mask: does candidate `i` come before `j` and overlap it? -/
theorem mask_at (i j : Fin 1024) :
    k0_pay11 (k0_pay3 x1) (k0_pay4 x1) (k0_pay5 x1) (k0_pay6 x1) (k0_pay7 x2) (k0_pay8 x2) (k0_pay9 x2) (k0_pay10 x2)
        (FloatOps.ofBits .f32 0#32) (FloatOps.ofBits .f32 1145569280#32) (ix2 i j)
      = ind (overlaps (clip fun c => x1 (ix2 i c)) (clip fun c => x2 (ix2 c j)) ∧ i.val < j.val) := by
  pointwise [k0_pay11]
  rw [WordCmp.cmpi_sgt_ofNat (by omega) (by omega), WordCmp.andi_ofBool, ← Bool.decide_and, sitofp_bit]
  simp only [pay3_at, pay4_at, pay5_at, pay6_at, pay7_at, pay8_at, pay9_at, pay10_at]
  refine ind_congr (and_congr_left' ?_)
  simp only [overlaps, iou, inter, area]
  rfl

/-! ## One visit, and the rest of a block -/

/-- What the `k`-th trip makes of the block's keep row `a`, given row `r` of the mask: lane `k` of `a` says whether
    candidate `k` of the block is kept; where it is, `r`'s ones are removed. -/
def visit (k : ℕ) (a r : Vec Ideal S1x128 .f32) : Vec Ideal S1x128 .f32 :=
  fun y => a y * (1 - r y * ∑ l : Fin 128, a (ix2 0 l) * ind (l.val = k))

/-- One step of the inner loop is one visit. -/
theorem pay22_eq (k : Fin k0_t1_loop.trips) (a r : Vec Ideal S1x128 .f32) : k0_pay22 k a r = visit k.val a r := by
  funext y
  rw [eq_ix2 y]
  pointwise [k0_pay22]
  have hk : k.val < 2 ^ 31 := lt_of_lt_of_le k.isLt (by decide)
  have hiv : Scf.iv 0#32 1#32 k.val = BitVec.ofNat 32 k.val := by simp [Scf.iv]
  have e : ∀ l : Fin 128, FloatOps.sitofp (F := Ideal) .f32
      (BitVec.setWidth 32 (IntOp.cmpi .eq (BitVec.ofNat 32 l.val) (BitVec.ofNat 32 k.val))) = ind (l.val = k.val) := fun l => by
    rw [WordCmp.cmpi_eq_ofNat (by omega) (by omega), sitofp_bit]
  simp only [hiv, e, Finset.univ_unique, Finset.sum_singleton]
  rfl

/-- A kept candidate of the block removes, in the rest of the row, every candidate it suppresses. -/
theorem pay23_at (kb : Vec Ideal S1x128 .f32) (rows : Vec Ideal S128x1024 .f32) (old : Vec Ideal S1x1024 .f32) (z : Fin 1)
    (j : Fin 1024) :
    k0_pay23 kb rows old (ix2 z j) = old (ix2 z j) * ind (∑ l : Fin 128, kb (ix2 z l) * rows (ix2 l j) ≤ 0) := by
  pointwise [k0_pay23]
  rw [sitofp_bit]

/-- The block's flags are stored as they are. -/
theorem pay24_eq (kb : Vec Ideal S1x128 .f32) : k0_pay24 kb = kb := by
  funext y
  pointwise [k0_pay24]

/-- A diagonal block is stored as it is. -/
theorem pay14_eq (md : Vec Ideal S128x128 .f32) : k0_pay14 md = md := by
  funext y
  pointwise [k0_pay14]

/-- The first keep row: everything is kept. -/
theorem pay13_at (y : S1x1024.Idx) : k0_pay13 (F := Ideal) k0_pay12 y = 1 := by
  pointwise [k0_pay13, k0_pay12]

/-! ## Scores, ranks and the selection -/

/-- The final score: the score where it passes the threshold and the candidate is kept, else zero. -/
theorem pay48_at (kp ts : Vec Ideal S1x1000 .f32) (z : Fin 1) (j : Fin 1000) :
    k0_pay48 kp ts (ix2 z j) = ts (ix2 z j) * ind (threshold < ts (ix2 z j)) * kp (ix2 z j) := by
  pointwise [k0_pay48]
  rw [sitofp_bit]
  rfl

/-- Row `r` of the kernel's selection: a one wherever the candidate's computed rank is `r`. -/
theorem pay49_at (kp ts : Vec Ideal S1x1000 .f32) (r : Fin 100) (j : Fin 1000) :
    k0_pay49 kp ts (ix2 r j)
      = ind (BitVec.ofNat 32 r.val = Ideal.fptosi 32 (rankOf (fun x => k0_pay48 kp ts (ix2 0 x)) j)) := by
  pointwise [k0_pay49]
  have e : ∀ x : Fin 1000, FloatOps.sitofp (F := Ideal) .f32
      (BitVec.setWidth 32 (IntOp.cmpi .slt (BitVec.ofNat 32 x.val) (BitVec.ofNat 32 j.val))) = ind (x.val < j.val) := fun l => by
    rw [WordCmp.cmpi_slt_ofNat (by omega) (by omega), sitofp_bit]
  simp only [WordCmp.cmpi_eq_eq, sitofp_bit, e, one_sub_ind, ind_pos_iff, Finset.univ_unique, Finset.sum_singleton]
  rfl

/-- Row `r` of the kernel's selection, applied to the clipped columns. -/
theorem pay50_at (kp ts : Vec Ideal S1x1000 .f32) (r : Fin 100) (c : Fin 4) :
    k0_pay50 (k0_pay3 x1) (k0_pay4 x1) (k0_pay5 x1) (k0_pay6 x1) kp ts (ix2 r c)
      = ∑ j : Fin 1000, k0_pay49 kp ts (ix2 r j) * clip (fun c' => x1 (ix2 ⟨j.val, by omega⟩ c')) c := by
  pointwise [k0_pay50]
  refine Finset.sum_congr rfl fun j _ => congrArg _ ?_
  simp only [pay3_at, pay4_at, pay5_at, pay6_at]
  match c with
  | 0 => rfl
  | 1 => rfl
  | 2 => rfl
  | 3 => rfl

/-- Row `r` of the kernel's selection, applied to the final scores. -/
theorem pay51_at (kp ts : Vec Ideal S1x1000 .f32) (r : Fin 100) (z : Fin 1) :
    k0_pay51 kp ts (ix2 r z) = ∑ j : Fin 1000, k0_pay49 kp ts (ix2 r j) * k0_pay48 kp ts (ix2 z j) := by
  pointwise [k0_pay51]

end Cert.KernelIdeal.Val

end
-- ==== Proof.Keep.lean ====
/-
  What the kernel's scratch arrays hold. The mask array holds `suppresses`; the second array holds its diagonal tiles; the
  keep row holds, after each block of 128 candidates, `kept` as of that many visits. The last statement is `keepRow_at`:
  after the eight blocks the keep row says which candidates survive.
-/
module

public import proofs.«01_k».proof.Proof.Payloads
public import Idealize.ShloMosaic.Lib.Pipeline.Value
public import Idealize.ShloMosaic.Lib.Pipeline.FrameBody

@[expose] public section

set_option maxRecDepth 16384

noncomputable section

namespace Cert.KernelIdeal.Val

open Idealize.ShloMosaic Idealize.ShloMosaic.TcCoe Idealize.ShloMosaic.Tactic Idealize.ShloMosaic.Pointwise
open Cert.KernelIdeal.Gen Cert.Nms

/-! ## What a list of stores leaves, at an index -/

section Stores

variable {s : Shape} {e : EltTy} {off size : Fin s.rank → ℕ}

/-- Inside the last store's rectangle: that store's value. -/
theorem canon_of_mem (inb : ∀ a, off a + size a ≤ s.size a) (w : (Rect.unit off size inb).shape.Idx → Elt Ideal e)
    (L : List (View.Piece (Elt Ideal) s e)) (y : s.Idx) (x : (Rect.unit off size inb).shape.Idx)
    (hx : ∀ a, (y a).val = off a + (x a).val) :
    View.canon ((⟨Rect.unit off size inb, w⟩ : View.Piece (Elt Ideal) s e) :: L) y = w x := by
  have hy : y = (Rect.unit off size inb).emb x := by
    funext a
    refine Fin.ext ((hx a).trans ?_)
    show _ = off a + 1 * (x a).val
    rw [Nat.one_mul]
  rw [hy, View.canon_cons_emb]

/-- Outside it: what the earlier stores left. -/
theorem canon_of_not_mem (inb : ∀ a, off a + size a ≤ s.size a) (w : (Rect.unit off size inb).shape.Idx → Elt Ideal e)
    (L : List (View.Piece (Elt Ideal) s e)) (y : s.Idx) (a : Fin s.rank)
    (h : (y a).val < off a ∨ off a + size a ≤ (y a).val) :
    View.canon ((⟨Rect.unit off size inb, w⟩ : View.Piece (Elt Ideal) s e) :: L) y = View.canon L y := by
  refine View.canon_cons_of_not_mem _ L fun hm => ?_
  have := (Rect.mem_set_unit (inb := inb)).mp hm a
  omega

end Stores

/-- A load from an array read back from its stores, at an index. -/
theorem readCov_at {sp : Space} {s : Shape} {e : EltTy} {off size : Fin s.rank → ℕ} (v : View sig .tc sp s e)
    (L : List (View.Piece (Elt Ideal) s e)) (inb : ∀ a, off a + size a ≤ s.size a)
    (x : (Rect.unit off size inb).shape.Idx) (y : s.Idx) (hy : ∀ a, (y a).val = off a + (x a).val) :
    v.readCov L (Rect.unit off size inb).toLoadRect x = View.canon L y := by
  rw [View.readCov_eq_canon']
  refine congrArg _ (funext fun a => Fin.ext ?_)
  rw [hy a]
  show off a + 1 * (x a).val = _
  rw [Nat.one_mul]

/-! ## The mask -/

/-- The kernel's boxes, by candidate. -/
def boxOf (x1 : Vec Ideal S1024x4 .f32) (i : ℕ) (c : Fin 4) : EReal := if h : i < 1024 then x1 (ix2 ⟨i, h⟩ c) else 0

/-- Row `i` of the kernel's table of boxes. -/
theorem boxOf_fin (x1 : Vec Ideal S1024x4 .f32) (i : Fin 1024) : boxOf x1 i.val = fun c => x1 (ix2 i c) := by
  funext c
  exact dif_pos i.isLt

/-- The suppression relation of the kernel's boxes. -/
abbrev rel (x1 : Vec Ideal S1024x4 .f32) : ℕ → ℕ → Prop := suppresses (boxOf x1)

variable (c : Dev nD) {arg0 : Memref sig .tc .vmem S1x1000 .f32} (harg0 : arg0.IsWhole)
  {arg1 : Memref sig .tc .vmem S1024x4 .f32} (harg1 : arg1.IsWhole) {arg2 : Memref sig .tc .vmem S4x1024 .f32} (harg2 : arg2.IsWhole)
  {arg3 : Memref sig .tc .vmem S100x5 .f32} (harg3 : arg3.IsWhole) {arg4 : Memref sig .tc .vmem S1024x1024 .f32} (harg4 : arg4.IsWhole)
  {arg5 : Memref sig .tc .vmem S1024x128 .f32} (harg5 : arg5.IsWhole) {arg6 : Memref sig .tc .vmem S1x1024 .f32} (harg6 : arg6.IsWhole)
  (x1 : Vec Ideal S1024x4 .f32) (x2 : Vec Ideal S4x1024 .f32)

/-- Loading the whole table of boxes gives its contents. -/
theorem load_boxes : View.readAt (Elt Ideal) arg1.view (Rect.unit ![0, 0] S1024x4.size inb_S1024x4_S1024x4_0_0).toLoadRect
    (harg1.unread x1) = x1 := by
  rw [View.readAt_eq_ld, harg1.read_unread, View.ld_unit_zero (by decide)]

/-- Loading the whole transposed table gives its contents. -/
theorem load_boxesT : View.readAt (Elt Ideal) arg2.view (Rect.unit ![0, 0] S4x1024.size inb_S4x1024_S4x1024_0_0).toLoadRect
    (harg2.unread x2) = x2 := by
  rw [View.readAt_eq_ld, harg2.read_unread, View.ld_unit_zero (by decide)]

/-- The stores into the mask array, as one list. -/
abbrev maskL := kernelRun0_A.sl.HS0_1 (F := Ideal) c arg1 harg1 arg2 harg2 x1 x2

variable (hx : ∀ (i : Fin 1024) (d : Fin 4), x2 (ix2 d i) = x1 (ix2 i d))

include hx in
/-- The mask array holds the suppression relation. -/
theorem mask_canon (y : S1024x1024.Idx) : View.canon (maskL c harg1 harg2 x1 x2) y = ind (rel x1 (y 0).val (y 1).val) := by
  unfold maskL kernelRun0_A.sl.HS0_1 kernelRun0_A.sl.r kernelRun0_A.sl.r_1 kernelRun0_A.sl.r_2 kernelRun0_A.sl.r_3
    kernelRun0_A.sl.r_4 kernelRun0_A.sl.r_5 kernelRun0_A.sl.r_6 kernelRun0_A.sl.r_7 kernelRun0_A.sl.cst_16 kernelRun0_A.sl.cst_17
  rw [View.canon_unit_zero (by decide), load_boxes, load_boxesT]
  refine (congrArg _ (eq_ix2 y)).trans ((mask_at x1 x2 (y 0) (y 1)).trans (ind_congr ?_))
  unfold rel suppresses
  rw [boxOf_fin x1 (y 0), boxOf_fin x1 (y 1)]
  rw [show (fun d => x2 (ix2 d (y 1))) = fun d => x1 (ix2 (y 1) d) from funext fun d => hx (y 1) d]

/-! ## The diagonal tiles -/

/-- Entry `(r, l)` of the diagonal tiles: does candidate `r` suppress lane `l` of its own block? -/
def tileOf (x1 : Vec Ideal S1024x4 .f32) (y : S1024x128.Idx) : EReal :=
  ind (rel x1 (y 0).val ((y 0).val / 128 * 128 + (y 1).val))

include hx in
/-- One store of the diagonal tiles: the tile at `(b, b)` of the mask, put at row `b`. -/
theorem tile_piece (b : ℕ) (k : ℕ) (hb : b = 128 * k) (inb : ∀ a, ![b, b] a + S128x128.size a ≤ S1024x1024.size a)
    (inb' : ∀ a, ![b, 0] a + S128x128.size a ≤ S1024x128.size a) (x : S128x128.Idx) :
    k0_pay14 (arg4.view.readCov (maskL c harg1 harg2 x1 x2) (Rect.unit (s := S1024x1024) ![b, b] S128x128.size inb).toLoadRect) x
      = tileOf x1 ((Rect.unit (s := S1024x128) ![b, 0] S128x128.size inb').emb x) := by
  have h0 : (x 0).val < 128 := (x 0).isLt
  have h1 : (x 1).val < 128 := (x 1).isLt
  have hb0 : b + 128 ≤ 1024 := inb 0
  have e0 : (((Rect.unit (s := S1024x128) ![b, 0] S128x128.size inb').emb x) 0).val = b + (x 0).val := by
    show b + 1 * (x 0).val = _; omega
  have e1 : (((Rect.unit (s := S1024x128) ![b, 0] S128x128.size inb').emb x) 1).val = (x 1).val := by
    show 0 + 1 * (x 1).val = _; omega
  rw [pay14_eq, readCov_at arg4.view _ inb x (ix2 ⟨b + (x 0).val, by omega⟩ ⟨b + (x 1).val, by omega⟩) (Fin.forall_fin_two.mpr ⟨rfl, rfl⟩),
    mask_canon c harg1 harg2 x1 x2 hx]
  unfold tileOf
  rw [e0, e1, show (b + (x 0).val) / 128 * 128 = b by omega]
  rfl

/-- The stores into the array of diagonal tiles, as one list. -/
abbrev tileL := kernelRun0_A.sl.HS1_8 (F := Ideal) c arg1 harg1 arg2 harg2 arg4 x1 x2

include hx in
/-- The second array holds the diagonal tiles. -/
theorem tile_canon (y : S1024x128.Idx) : View.canon (tileL c harg1 harg2 (arg4 := arg4) x1 x2) y = tileOf x1 y := by
  unfold tileL kernelRun0_A.sl.HS1_8
  have P := tile_piece c harg1 harg2 (arg4 := arg4) x1 x2 hx
  refine View.canon_apply_of_pieces (Val := Elt Ideal) (e := EltTy.f32) (tileOf x1) _ ?_ y ?_
  · simp only [List.forall_mem_cons, List.not_mem_nil, false_imp_iff, implies_true, and_true]
    exact ⟨P 896 7 rfl _ _, P 768 6 rfl _ _, P 640 5 rfl _ _, P 512 4 rfl _ _, P 384 3 rfl _ _, P 256 2 rfl _ _, P 128 1 rfl _ _, P 0 0 rfl _ _⟩
  · have h0 : (y 0).val < 1024 := (y 0).isLt
    have h1 : (y 1).val < 128 := (y 1).isLt
    simp only [List.exists_mem_cons_iff, Rect.mem_set_unit, Fin.forall_fin_two]
    simp
    omega

/-- The array of diagonal tiles, as an array written from its stores. -/
abbrev tiles := arg5.view.writes (Elt Ideal) arg5.view.junk (tileL c harg1 harg2 (arg4 := arg4) x1 x2)

include hx in
/-- One row of the diagonal tiles, read back: whom candidate `b + k` of the block from `b` suppresses inside that block. -/
theorem tile_row (b q k : ℕ) (hb : b = 128 * q) (hk : k < 128) (off : Fin 2 → ℕ) (hoff : off = ![k + b, 0])
    (inb : ∀ a, off a + ![1, 128] a ≤ S1024x128.size a) (y : S1x128.Idx) :
    View.readAt (Elt Ideal) arg5.view (Rect.unit (s := S1024x128) off ![1, 128] inb).toLoadRect
        (tiles c harg1 harg2 (arg4 := arg4) (arg5 := arg5) x1 x2) y
      = ind (rel x1 (b + k) (b + (y 1).val)) := by
  subst hoff
  have h0 : (y 0).val = 0 := by have : (y 0).val < 1 := (y 0).isLt; omega
  have h1 : (y 1).val < 128 := (y 1).isLt
  have hin : k + b + 1 ≤ 1024 := inb 0
  unfold tiles
  rw [View.readAt_writes_junk_eq_canon]
  refine (tile_canon c harg1 harg2 x1 x2 hx _).trans ?_
  have e0 : ((((Rect.unit (s := S1024x128) ![k + b, 0] ![1, 128] inb).toLoadRect.idx y) 0).val) = k + b := by
    show k + b + 1 * (y 0).val = _; omega
  have e1 : ((((Rect.unit (s := S1024x128) ![k + b, 0] ![1, 128] inb).toLoadRect.idx y) 1).val) = (y 1).val := by
    show 0 + 1 * (y 1).val = _; omega
  unfold tileOf
  rw [e0, e1, show (k + b) / 128 * 128 = b by omega, Nat.add_comm k b]

/-! ## The loop over one block, and what the block then does -/

/-- The keep row holds the flags as of `n` visits. -/
def Holds (x1 : Vec Ideal S1024x4 .f32) (n : ℕ) (L : List (View.Piece (Elt Ideal) S1x1024 .f32)) : Prop :=
  ∀ y, View.canon L y = ind (kept (rel x1) n (y 1).val)

/-- The kernel's suppression relation points forward. -/
theorem rel_lt (i j : ℕ) (h : rel x1 i j) : i < j := lt_of_suppresses _ _ _ h

/-- The 128 visits of a block: the flags of the block's own candidates as of `b + k` visits. -/
theorem visits (M : ℕ → ℕ → Prop) (b : ℕ) (s row : ℕ → Vec Ideal S1x128 .f32)
    (h0 : ∀ y, s 0 y = ind (kept M b (b + (y 1).val)))
    (hs : ∀ k < 128, s (k + 1) = visit k (s k) (row k))
    (hr : ∀ k < 128, ∀ y, row k y = ind (M (b + k) (b + (y 1).val))) :
    ∀ k ≤ 128, ∀ y, s k y = ind (kept M (b + k) (b + (y 1).val)) := by
  intro k
  induction k with
  | zero => exact fun _ => h0
  | succ k ih =>
    intro hk y
    have ih := ih (by omega)
    rw [hs k (by omega)]
    unfold visit
    rw [hr k (by omega), sum_mul_ind_eq _ _ (⟨k, by omega⟩ : Fin 128) (fun l => Fin.ext_iff.symm), ih, ih, ind_remove]
    exact ind_congr Iff.rfl

include hx in
/-- One block: from flags as of `b` visits to flags as of `b + 128` visits. The loop settles the block's own candidates;
    the matrix product then removes every candidate some survivor of the block suppresses. -/
theorem block (b q : ℕ) (hb : b = 128 * q) (L : List (View.Piece (Elt Ideal) S1x1024 .f32)) (hL : Holds x1 b L)
    (inb0 : ∀ a, ![0, b] a + ![1, 128] a ≤ S1x1024.size a) (inb1 : ∀ a, ![0, 0] a + ![1, 1024] a ≤ S1x1024.size a)
    (inb2 : ∀ a, ![b, 0] a + ![128, 1024] a ≤ S1024x1024.size a)
    (T : ℕ) (hT : T = 128) (s : ℕ → Vec Ideal S1x128 .f32)
    (h0 : s 0 = arg6.view.readCov L (Rect.unit (s := S1x1024) ![0, b] ![1, 128] inb0).toLoadRect)
    (off : Fin T → Fin 2 → ℕ) (hoff : ∀ k, off k = ![k.val + b, 0]) (inb : ∀ k a, off k a + ![1, 128] a ≤ S1024x128.size a)
    (hs : ∀ k : Fin T, s (k.val + 1) = visit k.val (s k.val)
      (View.readAt (Elt Ideal) arg5.view (Rect.unit (s := S1024x128) (off k) ![1, 128] (inb k)).toLoadRect
        (tiles c harg1 harg2 (arg4 := arg4) (arg5 := arg5) x1 x2))) :
    Holds x1 (b + 128)
      (⟨Rect.unit (s := S1x1024) ![0, b] ![1, 128] inb0, k0_pay24 (s T)⟩
        :: ⟨Rect.unit (s := S1x1024) ![0, 0] ![1, 1024] inb1,
            k0_pay23 (s T) (arg4.view.readCov (maskL c harg1 harg2 x1 x2) (Rect.unit (s := S1024x1024) ![b, 0] ![128, 1024] inb2).toLoadRect)
              (arg6.view.readCov L (Rect.unit (s := S1x1024) ![0, 0] ![1, 1024] inb1).toLoadRect)⟩ :: L) := by
  subst hT
  have hin : b + 128 ≤ 1024 := inb2 0
  have hkb : ∀ y, s 128 y = ind (kept (rel x1) (b + 128) (b + (y 1).val)) := by
    refine visits (rel x1) b s (fun k => if h : k < 128 then View.readAt (Elt Ideal) arg5.view
      (Rect.unit (s := S1024x128) (off ⟨k, h⟩) ![1, 128] (inb ⟨k, h⟩)).toLoadRect
        (tiles c harg1 harg2 (arg4 := arg4) (arg5 := arg5) x1 x2) else fun _ => 0) ?_ ?_ ?_ 128 le_rfl
    · intro y
      have h1 : (y 1).val < 128 := (y 1).isLt
      rw [h0, readCov_at arg6.view L inb0 y (ix2 (y 0) ⟨b + (y 1).val, by omega⟩)
        (Fin.forall_fin_two.mpr ⟨(Nat.zero_add _).symm, rfl⟩), hL]
      rfl
    · intro k hk
      rw [dif_pos hk]
      exact hs ⟨k, hk⟩
    · intro k hk y
      rw [dif_pos hk]
      exact tile_row c harg1 harg2 x1 x2 hx b q k hb hk _ (hoff ⟨k, hk⟩) _ y
  intro y
  obtain ⟨z, j, rfl⟩ : ∃ (z : Fin 1) (j : Fin 1024), y = ix2 z j := ⟨y 0, y 1, eq_ix2 y⟩
  by_cases hmem : b ≤ j.val ∧ j.val < b + 128
  · rw [canon_of_mem (s := S1x1024) (off := ![0, b]) (size := ![1, 128]) inb0 _ _ (ix2 z j) (ix2 z ⟨j.val - b, by omega⟩)
      (Fin.forall_fin_two.mpr ⟨(Nat.zero_add _).symm, by show j.val = b + (j.val - b); omega⟩), pay24_eq, hkb]
    show ind (kept _ _ (b + (j.val - b))) = _
    rw [show b + (j.val - b) = j.val by omega]
    rfl
  · rw [canon_of_not_mem inb0 _ _ (ix2 z j) 1 (by show j.val < b ∨ b + 128 ≤ j.val; omega),
      canon_of_mem (s := S1x1024) (off := ![0, 0]) (size := ![1, 1024]) inb1 _ _ (ix2 z j) (ix2 z j)
        (Fin.forall_fin_two.mpr ⟨(Nat.zero_add _).symm, (Nat.zero_add _).symm⟩), pay23_at,
      readCov_at arg6.view L inb1 (ix2 z j) (ix2 z j) (Fin.forall_fin_two.mpr ⟨(Nat.zero_add _).symm, (Nat.zero_add _).symm⟩), hL]
    have hsum : ∀ l : Fin 128, s 128 (ix2 z l) * arg4.view.readCov (maskL c harg1 harg2 x1 x2)
        (Rect.unit (s := S1024x1024) ![b, 0] ![128, 1024] inb2).toLoadRect (ix2 l j)
        = ind (kept (rel x1) (b + 128) (b + l.val) ∧ rel x1 (b + l.val) j.val) := by
      intro l
      rw [hkb, readCov_at arg4.view _ inb2 (ix2 l j) (ix2 ⟨b + l.val, by omega⟩ j)
        (Fin.forall_fin_two.mpr ⟨rfl, (Nat.zero_add _).symm⟩), mask_canon c harg1 harg2 x1 x2 hx, ind_mul]
      rfl
    simp only [hsum]
    rw [ind_mul]
    refine ind_congr (Iff.trans ?_ (kept_add (rel_lt x1) b 128 j.val).symm)
    rw [sum_ind_le_zero]
    exact and_congr_right fun _ => ⟨fun h i hi => h ⟨i, hi⟩, fun h i => h i.val i.isLt⟩

end Cert.KernelIdeal.Val

end
-- ==== Proof.Blocks.lean ====
/-
  The kernel's eight blocks, one after the other: the keep row starts all ones and, after the eighth block, holds which
  candidates survive all 1024 visits. Each block is an instance of `block`.
-/
module

public import proofs.«01_k».proof.Proof.Keep

@[expose] public section

set_option maxRecDepth 16384

noncomputable section

namespace Cert.KernelIdeal.Val

open Idealize.ShloMosaic Idealize.ShloMosaic.TcCoe Idealize.ShloMosaic.Tactic Idealize.ShloMosaic.Pointwise
open Cert.KernelIdeal.Gen Cert.Nms

variable (c : Dev nD) {arg0 : Memref sig .tc .vmem S1x1000 .f32} (harg0 : arg0.IsWhole)
  {arg1 : Memref sig .tc .vmem S1024x4 .f32} (harg1 : arg1.IsWhole) {arg2 : Memref sig .tc .vmem S4x1024 .f32} (harg2 : arg2.IsWhole)
  {arg3 : Memref sig .tc .vmem S100x5 .f32} (harg3 : arg3.IsWhole) {arg4 : Memref sig .tc .vmem S1024x1024 .f32} (harg4 : arg4.IsWhole)
  {arg5 : Memref sig .tc .vmem S1024x128 .f32} (harg5 : arg5.IsWhole) {arg6 : Memref sig .tc .vmem S1x1024 .f32} (harg6 : arg6.IsWhole)
  (x1 : Vec Ideal S1024x4 .f32) (x2 : Vec Ideal S4x1024 .f32)

/-- Before the first block every flag is one. -/
theorem holds0 : Holds x1 0 (kernelRun0_A.sl.HS2_1 (F := Ideal)) := by
  intro y
  unfold kernelRun0_A.sl.HS2_1
  rw [View.canon_unit_zero (by decide), pay13_at]
  exact (ind_true (kept_zero _)).symm

variable (hx : ∀ (i : Fin 1024) (d : Fin 4), x2 (ix2 d i) = x1 (ix2 i d))

include hx in
/-- After the first block. -/
theorem holds1 : Holds x1 128 (kernelRun0_A.sl.HS2_3 (F := Ideal) c arg0 harg0 arg1 harg1 arg2 harg2 arg3 harg3 arg4 harg4 arg5 harg5 arg6 harg6 x1 x2) := by
  refine block c harg1 harg2 (arg5 := arg5) x1 x2 hx 0 0 rfl _ (holds0 x1) _ _ _ _ (by decide)
    (st_k0_t1 (F := Ideal) Variants.none c none arg0 harg0 arg1 harg1 arg2 harg2 arg3 harg3 arg4 harg4 arg5 harg5 arg6 harg6 _ _ _) rfl
    k0_off1 k0_off1_eq k0_off1_inb (fun k => (st_k0_t1_succ ..).trans ?_)
  unfold tripR_k0_t1 trip_k0_t1
  exact pay22_eq k _ _

include hx in
/-- After the second block. -/
theorem holds2 : Holds x1 256 (kernelRun0_A.sl.HS2_5 (F := Ideal) c arg0 harg0 arg1 harg1 arg2 harg2 arg3 harg3 arg4 harg4 arg5 harg5 arg6 harg6 x1 x2) := by
  refine block c harg1 harg2 (arg5 := arg5) x1 x2 hx 128 1 rfl _ (holds1 c harg0 harg1 harg2 harg3 harg4 harg5 harg6 x1 x2 hx) _ _ _ _ (by decide)
    (st_k0_t2 (F := Ideal) Variants.none c none arg0 harg0 arg1 harg1 arg2 harg2 arg3 harg3 arg4 harg4 arg5 harg5 arg6 harg6 _ _ _) rfl
    k0_off2 k0_off2_eq k0_off2_inb (fun k => (st_k0_t2_succ ..).trans ?_)
  unfold tripR_k0_t2 trip_k0_t2
  exact pay22_eq k _ _

include hx in
/-- After the third block. -/
theorem holds3 : Holds x1 384 (kernelRun0_A.sl.HS2_7 (F := Ideal) c arg0 harg0 arg1 harg1 arg2 harg2 arg3 harg3 arg4 harg4 arg5 harg5 arg6 harg6 x1 x2) := by
  refine block c harg1 harg2 (arg5 := arg5) x1 x2 hx 256 2 rfl _ (holds2 c harg0 harg1 harg2 harg3 harg4 harg5 harg6 x1 x2 hx) _ _ _ _ (by decide)
    (st_k0_t3 (F := Ideal) Variants.none c none arg0 harg0 arg1 harg1 arg2 harg2 arg3 harg3 arg4 harg4 arg5 harg5 arg6 harg6 _ _ _ _) rfl
    k0_off3 k0_off3_eq k0_off3_inb (fun k => (st_k0_t3_succ ..).trans ?_)
  unfold tripR_k0_t3 trip_k0_t3
  exact pay22_eq k _ _

include hx in
/-- After the fourth block. -/
theorem holds4 : Holds x1 512 (kernelRun0_A.sl.HS2_9 (F := Ideal) c arg0 harg0 arg1 harg1 arg2 harg2 arg3 harg3 arg4 harg4 arg5 harg5 arg6 harg6 x1 x2) := by
  refine block c harg1 harg2 (arg5 := arg5) x1 x2 hx 384 3 rfl _ (holds3 c harg0 harg1 harg2 harg3 harg4 harg5 harg6 x1 x2 hx) _ _ _ _ (by decide)
    (st_k0_t4 (F := Ideal) Variants.none c none arg0 harg0 arg1 harg1 arg2 harg2 arg3 harg3 arg4 harg4 arg5 harg5 arg6 harg6 _ _ _) rfl
    k0_off4 k0_off4_eq k0_off4_inb (fun k => (st_k0_t4_succ ..).trans ?_)
  unfold tripR_k0_t4 trip_k0_t4
  exact pay22_eq k _ _

include hx in
/-- After the fifth block. -/
theorem holds5 : Holds x1 640 (kernelRun0_A.sl.HS2_11 (F := Ideal) c arg0 harg0 arg1 harg1 arg2 harg2 arg3 harg3 arg4 harg4 arg5 harg5 arg6 harg6 x1 x2) := by
  refine block c harg1 harg2 (arg5 := arg5) x1 x2 hx 512 4 rfl _ (holds4 c harg0 harg1 harg2 harg3 harg4 harg5 harg6 x1 x2 hx) _ _ _ _ (by decide)
    (st_k0_t5 (F := Ideal) Variants.none c none arg0 harg0 arg1 harg1 arg2 harg2 arg3 harg3 arg4 harg4 arg5 harg5 arg6 harg6 _ _ _) rfl
    k0_off5 k0_off5_eq k0_off5_inb (fun k => (st_k0_t5_succ ..).trans ?_)
  unfold tripR_k0_t5 trip_k0_t5
  exact pay22_eq k _ _

include hx in
/-- After the sixth block. -/
theorem holds6 : Holds x1 768 (kernelRun0_A.sl.HS2_13 (F := Ideal) c arg0 harg0 arg1 harg1 arg2 harg2 arg3 harg3 arg4 harg4 arg5 harg5 arg6 harg6 x1 x2) := by
  refine block c harg1 harg2 (arg5 := arg5) x1 x2 hx 640 5 rfl _ (holds5 c harg0 harg1 harg2 harg3 harg4 harg5 harg6 x1 x2 hx) _ _ _ _ (by decide)
    (st_k0_t6 (F := Ideal) Variants.none c none arg0 harg0 arg1 harg1 arg2 harg2 arg3 harg3 arg4 harg4 arg5 harg5 arg6 harg6 _ _ _ _ _) rfl
    k0_off6 k0_off6_eq k0_off6_inb (fun k => (st_k0_t6_succ ..).trans ?_)
  unfold tripR_k0_t6 trip_k0_t6
  exact pay22_eq k _ _

include hx in
/-- After the seventh block. -/
theorem holds7 : Holds x1 896 (kernelRun0_A.sl.HS2_15 (F := Ideal) c arg0 harg0 arg1 harg1 arg2 harg2 arg3 harg3 arg4 harg4 arg5 harg5 arg6 harg6 x1 x2) := by
  refine block c harg1 harg2 (arg5 := arg5) x1 x2 hx 768 6 rfl _ (holds6 c harg0 harg1 harg2 harg3 harg4 harg5 harg6 x1 x2 hx) _ _ _ _ (by decide)
    (st_k0_t7 (F := Ideal) Variants.none c none arg0 harg0 arg1 harg1 arg2 harg2 arg3 harg3 arg4 harg4 arg5 harg5 arg6 harg6 _ _ _ _ _) rfl
    k0_off7 k0_off7_eq k0_off7_inb (fun k => (st_k0_t7_succ ..).trans ?_)
  unfold tripR_k0_t7 trip_k0_t7
  exact pay22_eq k _ _

include hx in
/-- After the eighth block. -/
theorem holds8 : Holds x1 1024 (kernelRun0_A.sl.HS2_17 (F := Ideal) c arg0 harg0 arg1 harg1 arg2 harg2 arg3 harg3 arg4 harg4 arg5 harg5 arg6 harg6 x1 x2) := by
  refine block c harg1 harg2 (arg5 := arg5) x1 x2 hx 896 7 rfl _ (holds7 c harg0 harg1 harg2 harg3 harg4 harg5 harg6 x1 x2 hx) _ _ _ _ (by decide)
    (st_k0_t8 (F := Ideal) Variants.none c none arg0 harg0 arg1 harg1 arg2 harg2 arg3 harg3 arg4 harg4 arg5 harg5 arg6 harg6 _ _ _ _ _) rfl
    k0_off8 k0_off8_eq k0_off8_inb (fun k => (st_k0_t8_succ ..).trans ?_)
  unfold tripR_k0_t8 trip_k0_t8
  exact pay22_eq k _ _

include hx in
/-- The keep row as the last part of the kernel reads it: 1 at the candidates that survive all 1024 visits, 0 elsewhere. -/
theorem keepRow_at (z : Fin 1) (j : Fin 1000) : kernelRun0_A.sl.v260 (F := Ideal) c arg0 harg0 arg1 harg1 arg2 harg2 arg3 harg3 arg4 harg4 arg5 harg5 arg6 harg6 x1 x2 (ix2 z j)
    = ind (kept (rel x1) 1024 j.val) := by
  unfold kernelRun0_A.sl.v260
  refine (readCov_at arg6.view _ inb_S1x1024_S1x1000_0_0 (ix2 z j) (ix2 z ⟨j.val, by omega⟩)
    (Fin.forall_fin_two.mpr ⟨(Nat.zero_add _).symm, (Nat.zero_add _).symm⟩)).trans ?_
  exact holds8 c harg0 harg1 harg2 harg3 harg4 harg5 harg6 x1 x2 hx _

end Cert.KernelIdeal.Val

end
-- ==== Proof.Spec.lean ====
/-
  The common specification: what both programs compute from the boxes and the scores of the 20000 candidates.

  The 1000 greatest scores are taken in order with their boxes; candidates are suppressed greedily in that order; a candidate's
  final score is its score where it passes the threshold and survives, else zero; the 100 greatest final scores are taken in
  order with their clipped boxes.
-/
module

public import proofs.«01_k».proof.Proof.Order
public import proofs.«01_k».proof.Proof.Boxes

@[expose] public section

noncomputable section

namespace Cert.Nms

open Idealize.ShloMosaic

/-- The logistic function, as both programs spell it. -/
def logistic (x : EReal) : EReal := Ideal.div 1 (1 + Ideal.exp (-x))

variable (box : Fin 20000 → Fin 4 → EReal) (s : Fin 20000 → EReal)

/-- The `j`-th row of a table of 1024 rows. -/
def padRow (j : Fin 1000) : Fin 1024 := Fin.castLE (by decide) j

/-- The `j`-th greatest score. -/
def topScore (j : Fin 1000) : EReal := s (pick s (Fin.castLE (by decide) j))

/-- Its box. -/
def topBox (i : ℕ) (c : Fin 4) : EReal := if h : i < 1000 then box (pick s (Fin.castLE (by decide) (⟨i, h⟩ : Fin 1000))) c else 0

/-- Does the `j`-th survive the greedy suppression? -/
def survives (j : Fin 1000) : Prop := kept (suppresses (topBox box s)) j.val j.val

/-- The `j`-th's final score. -/
def finalScore (j : Fin 1000) : EReal := topScore s j * ind (threshold < topScore s j) * ind (survives box s j)

/-- Which of the 1000 comes `r`-th by final score. -/
def chosen (r : Fin 100) : Fin 1000 := pick (finalScore box s) (Fin.castLE (by decide) r)

/-- The result: in row `r` the clipped box of the `r`-th chosen, then its final score. -/
def result (r : Fin 100) (c : Fin 5) : EReal :=
  if h : c.val < 4 then clip (topBox box s (chosen box s r).val) ⟨c.val, h⟩ else finalScore box s (chosen box s r)

/-- The best scores descend. -/
theorem topScore_anti {i j : Fin 1000} (h : i < j) : topScore s j ≤ topScore s i := by
  rcases before_pick s (r := Fin.castLE (by decide) i) (r' := Fin.castLE (by decide) j) h with h' | h'
  · exact h'.le
  · exact h'.1.symm.le

/-- A final score is never negative. -/
theorem finalScore_nonneg (j : Fin 1000) : 0 ≤ finalScore box s j := by
  unfold finalScore
  rw [mul_assoc, ind_mul]
  by_cases h : threshold < topScore s j ∧ survives box s j
  · rw [ind_true h, mul_one]; exact (threshold_pos.trans h.1).le
  · rw [ind_false h, mul_zero]

/-- A positive final score is the score. -/
theorem finalScore_of_pos {j : Fin 1000} (h : 0 < finalScore box s j) : finalScore box s j = topScore s j := by
  unfold finalScore at h ⊢
  rw [mul_assoc, ind_mul] at h ⊢
  by_cases hp : threshold < topScore s j ∧ survives box s j
  · rw [ind_true hp, mul_one]
  · rw [ind_false hp, mul_zero] at h; exact absurd h (lt_irrefl _)

/-- Positive final scores stand in decreasing order: the rank by counting is the rank. -/
theorem rankOf_finalScore (j : Fin 1000) : rankOf (finalScore box s) j = ((rank (finalScore box s) j : ℕ) : EReal) :=
  rankOf_eq _ (finalScore_nonneg box s) (fun i j hij hi hj => by
    rw [finalScore_of_pos box s hi, finalScore_of_pos box s hj]; exact topScore_anti s hij) j

/-- The counted rank, as a word, is `r` exactly at the `r`-th chosen. -/
theorem rankWord_iff (r : Fin 100) (j : Fin 1000) :
    BitVec.ofNat 32 r.val = Ideal.fptosi 32 (rankOf (finalScore box s) j) ↔ j = chosen box s r := by
  have hlt := rank_lt (finalScore box s) j
  rw [rankOf_finalScore, fptosi_natCast _ (by omega)]
  refine Iff.trans ?_ (rank_eq_iff (finalScore box s) j (Fin.castLE (by decide) r))
  show _ ↔ _ = r.val
  constructor
  · intro h
    have := congrArg BitVec.toNat h
    simp only [BitVec.toNat_ofNat] at this
    omega
  · intro h
    rw [h]

/-- Survival after all visits, for candidates given by another table that agrees on the 1000. -/
theorem kept_iff_survives (M : ℕ → ℕ → Prop) (hM : ∀ i j, M i j → i < j)
    (h : ∀ i j, i < 1000 → j < 1000 → (M i j ↔ suppresses (topBox box s) i j)) (n : ℕ) (j : Fin 1000) (hn : 1000 ≤ n) :
    kept M n j.val ↔ survives box s j := by
  rw [kept_of_le hM (n := n) (j := j.val) (by omega)]
  exact kept_congr 1000 h j.val j.val (by omega) j.isLt

end Cert.Nms

end
-- ==== Proof.KernelOut.lean ====
/-
  What the kernel's body leaves in its output block, from what its input blocks hold: where the inputs are the greatest
  scores and their boxes (once as rows, once as columns), the output is the specification's result.
-/
module

public import proofs.«01_k».proof.Proof.Blocks
public import proofs.«01_k».proof.Proof.Spec

@[expose] public section

set_option maxRecDepth 16384

noncomputable section

namespace Cert.KernelIdeal.Val

open Idealize.ShloMosaic Idealize.ShloMosaic.TcCoe Idealize.ShloMosaic.Tactic Idealize.ShloMosaic.Pointwise
open Cert.KernelIdeal.Gen Cert.Nms

section Select

variable (box : Fin 20000 → Fin 4 → EReal) (s : Fin 20000 → EReal) (x1 : Vec Ideal S1024x4 .f32) (kp ts : Vec Ideal S1x1000 .f32)
  (hts : ∀ j, ts (ix2 0 j) = topScore s j) (hkp : ∀ j, kp (ix2 0 j) = ind (survives box s j))
  (h1 : ∀ (j : Fin 1000) (c : Fin 4), x1 (ix2 (padRow j) c) = topBox box s j.val c)

include hts hkp in
/-- The kernel's final scores are the specification's. -/
theorem scores_at (j : Fin 1000) : k0_pay48 kp ts (ix2 0 j) = finalScore box s j := by
  rw [pay48_at, hts, hkp]
  rfl

include hts hkp in
/-- Row `r` of the kernel's selection is one at the `r`-th chosen and zero elsewhere. -/
theorem select_at (r : Fin 100) (j : Fin 1000) : k0_pay49 kp ts (ix2 r j) = ind (j = chosen box s r) := by
  rw [pay49_at, show (fun x => k0_pay48 kp ts (ix2 0 x)) = finalScore box s from funext (scores_at box s kp ts hts hkp)]
  exact ind_congr (rankWord_iff box s r j)

include hts hkp h1 in
/-- The first four columns: the chosen box, clipped. -/
theorem boxes_out (r : Fin 100) (c : Fin 4) :
    k0_pay50 (k0_pay3 x1) (k0_pay4 x1) (k0_pay5 x1) (k0_pay6 x1) kp ts (ix2 r c) = clip (topBox box s (chosen box s r).val) c := by
  rw [pay50_at]
  simp only [select_at box s kp ts hts hkp]
  rw [sum_ind_mul_eq _ _ (chosen box s r) fun _ => Iff.rfl]
  exact congrArg (clip · c) (funext fun c' => h1 (chosen box s r) c')

include hts hkp in
/-- The fifth column: the chosen final score. -/
theorem scores_out (r : Fin 100) : k0_pay51 kp ts (ix2 r 0) = finalScore box s (chosen box s r) := by
  rw [pay51_at]
  simp only [select_at box s kp ts hts hkp]
  rw [sum_ind_mul_eq _ _ (chosen box s r) fun _ => Iff.rfl]
  exact scores_at box s kp ts hts hkp _

end Select

variable (c : Dev nD) {arg0 : Memref sig .tc .vmem S1x1000 .f32} (harg0 : arg0.IsWhole)
  {arg1 : Memref sig .tc .vmem S1024x4 .f32} (harg1 : arg1.IsWhole) {arg2 : Memref sig .tc .vmem S4x1024 .f32} (harg2 : arg2.IsWhole)
  {arg3 : Memref sig .tc .vmem S100x5 .f32} (harg3 : arg3.IsWhole) {arg4 : Memref sig .tc .vmem S1024x1024 .f32} (harg4 : arg4.IsWhole)
  {arg5 : Memref sig .tc .vmem S1024x128 .f32} (harg5 : arg5.IsWhole) {arg6 : Memref sig .tc .vmem S1x1024 .f32} (harg6 : arg6.IsWhole)
  (x0 : Vec Ideal S1x1000 .f32) (x1 : Vec Ideal S1024x4 .f32) (x2 : Vec Ideal S4x1024 .f32)

/-- Over the 1000 candidates the kernel's suppression relation is the specification's. -/
theorem rel_iff (box : Fin 20000 → Fin 4 → EReal) (s : Fin 20000 → EReal)
    (h1 : ∀ (j : Fin 1000) (d : Fin 4), x1 (ix2 (padRow j) d) = topBox box s j.val d) (i j : ℕ) (hi : i < 1000) (hj : j < 1000) :
    rel x1 i j ↔ suppresses (topBox box s) i j := by
  have e : ∀ k (hk : k < 1000), boxOf x1 k = topBox box s k := fun k hk =>
    (boxOf_fin x1 ⟨k, by omega⟩).trans (funext fun d => h1 ⟨k, hk⟩ d)
  unfold rel suppresses
  rw [e i hi, e j hj]

/-- Loading the whole row of scores gives its contents. -/
theorem load_scores : View.readAt (Elt Ideal) arg0.view (Rect.unit ![0, 0] S1x1000.size inb_S1x1000_S1x1000_0_0).toLoadRect
    (harg0.unread x0) = x0 := by
  rw [View.readAt_eq_ld, harg0.read_unread, View.ld_unit_zero (by decide)]

/-- The body's output block. -/
theorem out_eq (box : Fin 20000 → Fin 4 → EReal) (s : Fin 20000 → EReal)
    (h0 : ∀ j, x0 (ix2 0 j) = topScore s j)
    (h1 : ∀ (j : Fin 1000) (d : Fin 4), x1 (ix2 (padRow j) d) = topBox box s j.val d)
    (hx : ∀ (i : Fin 1024) (d : Fin 4), x2 (ix2 d i) = x1 (ix2 i d)) (r : Fin 100) (d : Fin 5) :
    out0_A_3 (F := Ideal) c arg0 harg0 arg1 harg1 arg2 harg2 arg3 harg3 arg4 harg4 arg5 harg5 arg6 harg6 x0 x1 x2 (ix2 r d)
      = result box s r d := by
  have hk : ∀ j : Fin 1000, kernelRun0_A.sl.v260 (F := Ideal) c arg0 harg0 arg1 harg1 arg2 harg2 arg3 harg3 arg4 harg4 arg5 harg5 arg6 harg6 x1 x2 (ix2 0 j)
      = ind (survives box s j) := fun j =>
    (keepRow_at c harg0 harg1 harg2 harg3 harg4 harg5 harg6 x1 x2 hx 0 j).trans
      (ind_congr (kept_iff_survives box s (rel x1) (rel_lt x1) (rel_iff x1 box s h1) 1024 j (by omega)))
  unfold out0_A_3
  rw [View.read_writes_eq_canon _ _ _ (cover0_A_3 c arg0 harg0 arg1 harg1 arg2 harg2 arg3 harg3 arg4 harg4 arg5 harg5 arg6 harg6 x0 x1 x2)]
  unfold kernelRun0_A
  dsimp only
  unfold kernelRun0_A.sl.r kernelRun0_A.sl.r_1 kernelRun0_A.sl.r_2 kernelRun0_A.sl.r_3
  rw [load_scores, load_boxes]
  by_cases hd : d.val < 4
  · rw [canon_of_not_mem _ _ _ (ix2 r d) 1 (by show d.val < 4 ∨ 4 + 1 ≤ d.val; omega),
      canon_of_mem (s := S100x5) (off := ![0, 0]) (size := ![100, 4]) _ _ _ (ix2 r d) (ix2 r ⟨d.val, hd⟩)
        (Fin.forall_fin_two.mpr ⟨(Nat.zero_add _).symm, (Nat.zero_add _).symm⟩),
      boxes_out box s x1 _ x0 h0 hk h1]
    unfold result
    rw [dif_pos hd]
  · rw [canon_of_mem (s := S100x5) (off := ![0, 4]) (size := ![100, 1]) _ _ _ (ix2 r d) (ix2 r 0)
        (Fin.forall_fin_two.mpr ⟨(Nat.zero_add _).symm, by show d.val = 4 + 0; omega⟩),
      scores_out box s _ x0 h0 hk]
    unfold result
    rw [dif_neg hd]

end Cert.KernelIdeal.Val

end
-- ==== Proof.Top.lean ====
/-
  Selection, read at an index: the k greatest entries and their positions, the rows of a table at given positions, a table
  written into the top rows of a longer one. Then the common specification: what both programs compute from the boxes and the
  scores.
-/
module

public import proofs.«01_k».proof.Proof.Order
public import proofs.«01_k».proof.Proof.Boxes
public import Idealize.ShloMosaic.Lib.Pointwise
public import Idealize.ShloMosaic.Lib.Pointwise.IndexBridge
public import Idealize.ShloMosaic.Lib.WordCmp
public import Idealize.ShloMosaic.Lib.Routing.OpsSet

@[expose] public section

noncomputable section

namespace Cert.Nms

open Idealize.ShloMosaic Idealize.ShloMosaic.Pointwise

/-- A vector of extended reals as a function of the position. -/
abbrev col {n : ℕ} (x : FVec Ideal ⟨1, ![n]⟩ .f32) : Fin n → EReal := fun i => x (ix1 i)

/-- The two spellings of a position in a list agree. -/
theorem ofFin_eq {n : ℕ} (k : Fin n) : (Shape.Idx.ofFin k : (⟨1, ![n]⟩ : Shape).Idx) = ix1 k := by
  funext a
  match a with
  | ⟨0, _⟩ => rfl

/-- A stable sort of a vector by its own entries, greatest first, carrying a second vector along. -/
theorem sort2_at {n : ℕ} {α : Type} (x : FVec Ideal ⟨1, ![n]⟩ .f32) (y : (⟨1, ![n]⟩ : Shape).Idx → α) :
    Host.sort2 ⟨1, ![n]⟩ 0 (fun l r : Ideal .f32 × α => FloatOps.cmpfTotal (F := Ideal) (φ := .f32) .gt l.1 r.1) x y
      = (fun j => x (ix1 (pick (col x) (j 0))), fun j => y (ix1 (pick (col x) (j 0)))) := by
  unfold Host.sort2
  have e : ∀ (j : (⟨1, ![n]⟩ : Shape).Idx) (k : Fin n), j.along (s := ⟨1, ![n]⟩) (0 : Fin 1) k = ix1 k :=
    fun j k => (Shape.Idx.along_rank1 j k).trans (ofFin_eq k)
  rw [dif_pos (show (0 : ℕ) < (⟨1, ![n]⟩ : Shape).rank from Nat.one_pos)]
  refine Prod.ext (funext fun j => ?_) (funext fun j => ?_)
  · refine (congrArg x (e j _)).trans (congrArg (fun r => x (ix1 r)) ?_)
    exact congrArg (fun f => sortedFrom f (j 0)) (funext fun a => funext fun b =>
      congrArg₂ (fun p q => FloatOps.cmpfTotal (F := Ideal) (φ := .f32) .gt (x p) (x q) == 1#1) (e j a) (e j b))
  · refine (congrArg y (e j _)).trans (congrArg (fun r => y (ix1 r)) ?_)
    exact congrArg (fun f => sortedFrom f (j 0)) (funext fun a => funext fun b =>
      congrArg₂ (fun p q => FloatOps.cmpfTotal (F := Ideal) (φ := .f32) .gt (x p) (x q) == 1#1) (e j a) (e j b))

section TopK

variable {n k : ℕ} (hk : k ≤ n) (x : FVec Ideal ⟨1, ![n]⟩ .f32) (h : (⟨1, ![n]⟩ : Shape).Slices (fun _ => 0) ⟨1, ![k]⟩)

/-- The `j`-th greatest entry. -/
theorem topK_value (j : Fin k) :
    (Host.topK (s := ⟨1, ![n]⟩) ⟨1, ![k]⟩ 0 (FloatOps.cmpfTotal (F := Ideal) (φ := .f32) .gt) x h).1 (ix1 j)
      = col x (pick (col x) (Fin.castLE hk j)) := by
  unfold Host.topK
  dsimp only
  rw [sort2_at]
  exact congrArg (fun r => x (ix1 (pick (col x) r))) (Fin.ext (Nat.zero_add _))

/-- Its position, as a word. -/
theorem topK_index (j : Fin k) :
    (Host.topK (s := ⟨1, ![n]⟩) ⟨1, ![k]⟩ 0 (FloatOps.cmpfTotal (F := Ideal) (φ := .f32) .gt) x h).2 (ix1 j)
      = BitVec.ofNat 32 (pick (col x) (Fin.castLE hk j)).val := by
  unfold Host.topK
  dsimp only
  rw [sort2_at]
  exact congrArg (fun r => BitVec.ofNat 32 (pick (col x) r).val) (Fin.ext (Nat.zero_add _))

end TopK

/-- Wrapping a position that is not negative changes nothing. -/
theorem wrap_ofNat (p : ℕ) (hp : p < 2 ^ 31) (z : BitVec 32) :
    Scalar.select (IntOp.cmpi .slt (BitVec.ofNat 32 p) 0#32) z (BitVec.ofNat 32 p) = BitVec.ofNat 32 p := by
  have := WordCmp.cmpi_slt_ofNat (w := 32) (a := p) (b := 0) (by omega) (by omega)
  rw [show (0#32) = BitVec.ofNat 32 0 from rfl, this]
  rfl

/-- Rows of a table at given positions. -/
theorem rows_at {n m b : ℕ} (d : GatherDims ⟨2, ![n, b]⟩ ⟨2, ![m, 1]⟩ ⟨2, ![m, b]⟩) (hoff : d.offsetDims = [1])
    (hcoll : d.collapsedSliceDims = [0]) (hob : d.operandBatchingDims = []) (hsim : d.startIndexMap = [0])
    (hivd : d.indexVectorDim = 1) (hn : n < 2 ^ 31) (x : FVec Ideal ⟨2, ![n, b]⟩ .f32) (idx : IVec ⟨2, ![m, 1]⟩ 32)
    (r : Fin m) (y : Fin b) (p : Fin n) (hp : idx (ix2 r (0 : Fin 1)) = BitVec.ofNat 32 p.val) :
    Host.gather d x idx (ix2 r y) = x (ix2 p y) := by
  rw [ix2_eq_valueIdx] at hp ⊢
  rw [ix2_eq_valueIdx]
  exact Routing.gather_row d hoff hcoll hob hsim hivd x idx r y p hp hn

/-- A table written at row 0 of a longer one: its own rows hold it. -/
theorem scatter_top_at {n m b : ℕ} (hnm : m ≤ n) (d : ScatterDims ⟨2, ![n, b]⟩ ⟨1, ![1]⟩ ⟨2, ![m, b]⟩)
    (hu : d.updateWindowDims = [0, 1]) (hi : d.insertedWindowDims = []) (hs : d.scatterDimsToOperandDims = [0])
    (hv : d.indexVectorDim = 0) (x : FVec Ideal ⟨2, ![n, b]⟩ .f32) (idx : IVec ⟨1, ![1]⟩ 32) (upd : FVec Ideal ⟨2, ![m, b]⟩ .f32)
    (hidx : ∀ y, idx y = 0#32) (r : Fin m) (y : Fin b) :
    Host.scatter d (fun _ v => v) x idx upd (ix2 (Fin.castLE hnm r) y) = upd (ix2 r y) := by
  obtain ⟨uw, iw, sd, iv, wf⟩ := d
  dsimp only at hu hi hs hv
  subst hu hi hs hv
  set d : ScatterDims ⟨2, ![n, b]⟩ ⟨1, ![1]⟩ ⟨2, ![m, b]⟩ := ⟨[0, 1], [], [0], 0, wf⟩ with hd
  have hstart : ∀ j a, d.start j idx a = 0 := by
    intro j a
    unfold ScatterDims.start
    split
    · rw [hidx]; rfl
    · rfl
  have hwin : ∀ (j : (⟨2, ![m, b]⟩ : Shape).Idx) (a : Fin 2), d.window j a = (j a).val := by
    intro j a
    match a with
    | 0 => rfl
    | 1 => rfl
  have land : ∀ j : (⟨2, ![m, b]⟩ : Shape).Idx, d.resultIdx? j idx = some (ix2 (Fin.castLE hnm (j 0)) (j 1)) := by
    intro j
    have h0 : (j 0).val < m := (j 0).isLt
    have h1 : (j 1).val < b := (j 1).isLt
    unfold ScatterDims.resultIdx?
    have hin : ∀ a : Fin 2, 0 ≤ d.start j idx a + d.window j a ∧ d.start j idx a + d.window j a < (⟨2, ![n, b]⟩ : Shape).size a := by
      intro a
      rw [hstart, hwin]
      match a with
      | 0 => exact ⟨by omega, by show (0 : ℤ) + ((j 0).val : ℤ) < (n : ℤ); omega⟩
      | 1 => exact ⟨by omega, by show (0 : ℤ) + ((j 1).val : ℤ) < (b : ℤ); omega⟩
    rw [dif_pos hin]
    refine congrArg some (funext fun a => Fin.ext ?_)
    show (d.start j idx a + d.window j a).toNat = _
    rw [hstart, hwin]
    match a with
    | 0 => show ((0 : ℤ) + ((j 0).val : ℤ)).toNat = (j 0).val; omega
    | 1 => show ((0 : ℤ) + ((j 1).val : ℤ)).toNat = (j 1).val; omega
  refine Routing.scatter_set_hit d x idx upd _ _ (fun k hk => ?_) (ix2 r y) (land _)
  rw [land k] at hk
  have hk := Option.some.inj hk
  have h0 : k 0 = r := Fin.ext (congrArg (fun i : (⟨2, ![n, b]⟩ : Shape).Idx => (i 0).val) hk)
  have h1 : k 1 = y := Fin.ext (congrArg (fun i : (⟨2, ![n, b]⟩ : Shape).Idx => (i 1).val) hk)
  rw [eq_ix2 k, h0, h1]

end Cert.Nms

end
-- ==== Proof.Take.lean ====
/-
  The best candidates, as both programs take them: the scores sorted with their positions, the boxes at those positions.
-/
module

public import proofs.«01_k».proof.Proof.Top
public import proofs.«01_k».proof.Proof.Spec

@[expose] public section

noncomputable section

namespace Cert.Nms

open Idealize.ShloMosaic Idealize.ShloMosaic.Pointwise

/-- The scores: the logistic function of every logit. -/
def scoresOf (a1 : FVec Ideal ⟨1, ![20000]⟩ .f32) (i : Fin 20000) : EReal := logistic (a1 (ix1 i))

/-- The boxes, by candidate and coordinate. -/
def boxesOf (a0 : FVec Ideal ⟨2, ![20000, 4]⟩ .f32) (i : Fin 20000) (d : Fin 4) : EReal := a0 (ix2 i d)

/-- The values of the first selection are the best scores. -/
theorem topScore_of {x : FVec Ideal ⟨1, ![20000]⟩ .f32} {s : Fin 20000 → EReal} (hx : ∀ i, x (ix1 i) = s i)
    (h : (⟨1, ![20000]⟩ : Shape).Slices (fun _ => 0) ⟨1, ![1000]⟩) (j : Fin 1000) :
    (Host.topK (s := ⟨1, ![20000]⟩) ⟨1, ![1000]⟩ 0 (FloatOps.cmpfTotal (F := Ideal) (φ := .f32) .gt) x h).1 (ix1 j) = topScore s j := by
  have e : col x = s := funext hx
  rw [topK_value (by decide) x h j, e]
  rfl

/-- The positions of the first selection are those of the best scores. -/
theorem topIndex_of {x : FVec Ideal ⟨1, ![20000]⟩ .f32} {s : Fin 20000 → EReal} (hx : ∀ i, x (ix1 i) = s i)
    (h : (⟨1, ![20000]⟩ : Shape).Slices (fun _ => 0) ⟨1, ![1000]⟩) (j : Fin 1000) :
    (Host.topK (s := ⟨1, ![20000]⟩) ⟨1, ![1000]⟩ 0 (FloatOps.cmpfTotal (F := Ideal) (φ := .f32) .gt) x h).2 (ix1 j)
      = BitVec.ofNat 32 (pick s (Fin.castLE (by decide) j)).val := by
  have e : col x = s := funext hx
  rw [topK_index (by decide) x h j, e]

/-- The rows of the table of boxes at the positions of the best scores, the positions written as a column. -/
theorem topBox_of (d : GatherDims ⟨2, ![20000, 4]⟩ ⟨2, ![1000, 1]⟩ ⟨2, ![1000, 4]⟩) (hoff : d.offsetDims = [1])
    (hcoll : d.collapsedSliceDims = [0]) (hob : d.operandBatchingDims = []) (hsim : d.startIndexMap = [0])
    (hivd : d.indexVectorDim = 1) (a0 : FVec Ideal ⟨2, ![20000, 4]⟩ .f32) (s : Fin 20000 → EReal) (idx : IVec ⟨2, ![1000, 1]⟩ 32)
    (j : Fin 1000) (c : Fin 4) (hp : idx (ix2 j 0) = BitVec.ofNat 32 (pick s (Fin.castLE (by decide) j)).val) :
    Host.gather d a0 idx (ix2 j c) = topBox (boxesOf a0) s j.val c := by
  rw [rows_at d hoff hcoll hob hsim hivd (by decide) a0 idx j c _ hp]
  unfold topBox boxesOf
  rw [dif_pos j.isLt]

end Cert.Nms

end
-- ==== Proof.KernelEntry.lean ====
/-
  What the kernel's host lines leave for the pipeline: the best scores as a row, their boxes at the top of a table of 1024
  rows, and that table transposed.
-/
module

public import proofs.«01_k».proof.Proof.Take
public import proofs.«01_k».proof.Proof.Gen.KernelIdeal.Value
public import Idealize.ShloMosaic.Lib.StableHlo.RunRead

@[expose] public section

set_option maxRecDepth 16384

noncomputable section

namespace Cert.KernelIdeal.Val

open Idealize.ShloMosaic Idealize.ShloMosaic.TcCoe Idealize.ShloMosaic.Pointwise Idealize.ShloMosaic.StableHlo
open Cert.KernelIdeal.Gen Cert.Nms

variable (V : Valuation τ sig (Elt Ideal))

/-- The launch contents of the boxes and of the logits. -/
abbrev arg0 : FVec Ideal ⟨2, ![20000, 4]⟩ .f32 := V (Proc.devRef .tc main_arg0)

/-- The scores argument. -/
abbrev arg1 : FVec Ideal ⟨1, ![20000]⟩ .f32 := V (Proc.devRef .tc main_arg1)

/-- The scores as the host lines write them. -/
def hostScores (a1 : FVec Ideal S20000 .f32) : FVec Ideal S20000 .f32 :=
  Host.divf (broadcastInDim S20000 ![] bcast_S_S20000 (constant S_ .f32 0x3F800000#32))
    (addf (broadcastInDim S20000 ![] bcast_S_S20000 (constant S_ .f32 0x3F800000#32)) (Host.exp (Host.negf a1)))

/-- An entry of the array of probabilities. -/
theorem hostScores_at (a1 : FVec Ideal S20000 .f32) (i : Fin 20000) : hostScores a1 (ix1 i) = scoresOf a1 i := by
  unfold hostScores scoresOf Cert.Nms.logistic
  pointwise

/-- The positions of the best, as the host lines write them: a column. -/
def hostIndex (ii : IVec S1000 32) : IVec S1000x1 32 :=
  broadcastInDim S1000x1 ![0] bcast_S1000_S1000x1_0 (select (cmpi .slt ii (broadcastInDim S1000 ![] bcast_S_S1000 (constantI S_ 32 0#32)))
    (addi ii (broadcastInDim S1000 ![] bcast_S_S1000 (constantI S_ 32 20000#32))) ii)

/-- A position below 2³¹, as a row index of the gather, is itself. -/
theorem hostIndex_at (ii : IVec S1000 32) (j : Fin 1000) (p : ℕ) (hp : p < 2 ^ 31) (h : ii (ix1 j) = BitVec.ofNat 32 p) :
    hostIndex ii (ix2 j 0) = BitVec.ofNat 32 p := by
  have : hostIndex ii (ix2 j 0) = Scalar.select (IntOp.cmpi .slt (ii (ix1 j)) 0#32) (IntOp.addi (ii (ix1 j)) 20000#32) (ii (ix1 j)) := by
    unfold hostIndex
    pointwise
  rw [this, h, wrap_ofNat p hp]

/-- The table of the best boxes, as the host lines write it. -/
def hostTop (a0 : FVec Ideal S20000x4 .f32) (a1 : FVec Ideal S20000 .f32) : FVec Ideal S1000x4 .f32 :=
  Host.gather gather_S20000x4_S1000x1_S1000x4_1_0_n_n_0_1_14 a0
    (hostIndex (Host.topK S1000 0 (FloatOps.cmpfTotal .gt) (hostScores a1) sliceFits_S20000_S1000).2)

/-- An entry of the gathered table: the box of the `j`-th best candidate. -/
theorem hostTop_at (a0 : FVec Ideal S20000x4 .f32) (a1 : FVec Ideal S20000 .f32) (j : Fin 1000) (d : Fin 4) :
    hostTop a0 a1 (ix2 j d) = topBox (boxesOf a0) (scoresOf a1) j.val d :=
  topBox_of _ rfl rfl rfl rfl rfl a0 (scoresOf a1) _ j d
    (hostIndex_at _ j _ (by omega) (topIndex_of (hostScores_at a1) sliceFits_S20000_S1000 j))

/-- The lines before the launch leave the sorted scores, as one row, in the first operand. -/
theorem read_v16 : after hostOps0 V (Proc.devRef .tc main_v16)
    = (shapeCast S1x1000 (Host.topK S1000 0 (FloatOps.cmpfTotal .gt) (hostScores (arg1 V)) sliceFits_S20000_S1000).1
        shapeCasts_S1000_S1x1000 : FVec Ideal S1x1000 .f32) := by
  after_reads_simp
  rfl

/-- The lines before the launch leave the padded table of boxes in the second operand. -/
theorem read_v15 : after hostOps0 V (Proc.devRef .tc main_v15)
    = (Host.scatter scatter_S1024x4_S1_S1000x4_01_n_0_0 (fun _ b => b)
        (broadcastInDim S1024x4 ![] bcast_S_S1024x4 (constant S_ .f32 0x00000000#32))
        (broadcastInDim S1 ![] bcast_S_S1 (constantI S_ 32 0#32)) (hostTop (arg0 V) (arg1 V)) : FVec Ideal S1024x4 .f32) := by
  after_reads_simp
  rfl

/-- The lines before the launch leave the transposed padded table in the third operand. -/
theorem read_v17 : after hostOps0 V (Proc.devRef .tc main_v17)
    = (transpose S4x1024 [1, 0] (after hostOps0 V (Proc.devRef .tc main_v15) : FVec Ideal S1024x4 .f32)
        transposes_S1024x4_S4x1024_1_0 : FVec Ideal S4x1024 .f32) := by
  after_reads_simp

/-- The row of scores. -/
theorem v16_at (j : Fin 1000) : (after hostOps0 V (Proc.devRef .tc main_v16) : FVec Ideal S1x1000 .f32) (ix2 0 j)
    = topScore (scoresOf (arg1 V)) j := by
  rw [read_v16]
  refine Eq.trans ?_ (topScore_of (hostScores_at (arg1 V)) sliceFits_S20000_S1000 j)
  generalize (Host.topK S1000 0 (FloatOps.cmpfTotal .gt) (hostScores (arg1 V)) sliceFits_S20000_S1000).1 = x
  pointwise

/-- The table of boxes. -/
theorem v15_at (j : Fin 1000) (d : Fin 4) : (after hostOps0 V (Proc.devRef .tc main_v15) : FVec Ideal S1024x4 .f32) (ix2 (padRow j) d)
    = topBox (boxesOf (arg0 V)) (scoresOf (arg1 V)) j.val d := by
  rw [read_v15]
  refine Eq.trans ?_ (hostTop_at (arg0 V) (arg1 V) j d)
  exact scatter_top_at (by decide) _ rfl rfl rfl rfl _ _ _ (fun _ => rfl) j d

/-- Its transpose. -/
theorem v17_at (i : Fin 1024) (d : Fin 4) : (after hostOps0 V (Proc.devRef .tc main_v17) : FVec Ideal S4x1024 .f32) (ix2 d i)
    = (after hostOps0 V (Proc.devRef .tc main_v15) : FVec Ideal S1024x4 .f32) (ix2 i d) := by
  rw [read_v17]
  generalize (after hostOps0 V (Proc.devRef .tc main_v15) : FVec Ideal S1024x4 .f32) = x
  pointwise

end Cert.KernelIdeal.Val

end
-- ==== Proof.KernelValue.lean ====
/-
  The kernel's result: what every run of it leaves in the result array.
-/
module

public import proofs.«01_k».proof.Proof.KernelOut
public import proofs.«01_k».proof.Proof.KernelEntry

@[expose] public section

set_option maxRecDepth 16384

noncomputable section

namespace Cert.KernelIdeal.Val

open Idealize.ShloMosaic Idealize.ShloMosaic.TcCoe Idealize.ShloMosaic.Pointwise Idealize.SL.Sem
open Cert.KernelIdeal.Gen Cert.KernelIdeal.Value Cert.Nms

variable (m : (ℓ : Loc nD τ sig) → Buf (Elt Ideal) ℓ) (c : Dev nD)

/-- The grid's one point. -/
abbrev point : Fin cfg0.N := ⟨0, by decide⟩

/-- The first operand's window is the whole array. -/
theorem read_win0 (f : Buf (Elt Ideal) ((c : Thread nD τ).loc main_v16)) : (win0_0.blk point).view.read (Elt Ideal) f = f :=
  Memref.read_access_unit_zero (Elt Ideal) main_v16
    (show (fun a => (win0_0.index point) a * main_v16.ty.shape.size a) = fun _ => 0 from
      funext fun a => Nat.zero_mul _) (fun a => by fin_cases a <;> decide) f

/-- The second operand's window is the whole array. -/
theorem read_win1 (f : Buf (Elt Ideal) ((c : Thread nD τ).loc main_v15)) : (win0_1.blk point).view.read (Elt Ideal) f = f :=
  Memref.read_access_unit_zero (Elt Ideal) main_v15
    (show (fun a => (win0_1.index point) a * main_v15.ty.shape.size a) = fun _ => 0 from
      funext fun a => Nat.zero_mul _) (fun a => by fin_cases a <;> decide) f

/-- The third operand's window is the whole array. -/
theorem read_win2 (f : Buf (Elt Ideal) ((c : Thread nD τ).loc main_v17)) : (win0_2.blk point).view.read (Elt Ideal) f = f :=
  Memref.read_access_unit_zero (Elt Ideal) main_v17
    (show (fun a => (win0_2.index point) a * main_v17.ty.shape.size a) = fun _ => 0 from
      funext fun a => Nat.zero_mul _) (fun a => by fin_cases a <;> decide) f

/-- The result's window is the whole array. -/
theorem read_win3 (f : Buf (Elt Ideal) ((c : Thread nD τ).loc main_v18)) : (win0_3.blk point).view.read (Elt Ideal) f = f :=
  Memref.read_access_unit_zero (Elt Ideal) main_v18
    (show (fun a => (win0_3.index point) a * main_v18.ty.shape.size a) = fun _ => 0 from
      funext fun a => Nat.zero_mul _) (fun a => by fin_cases a <;> decide) f

/-- The boxes and the scores of the launch memory. -/
abbrev memBoxes : Fin 20000 → Fin 4 → EReal := boxesOf (m ((c : Thread nD τ).loc main_arg0))

/-- The probabilities of the scores in memory. -/
abbrev memScores : Fin 20000 → EReal := scoresOf (m ((c : Thread nD τ).loc main_arg1))

/-- An entry of what the launch writes back: the specification's. -/
theorem flushed_at (r : Fin 100) (d : Fin 5) :
    ((dats m 0 c).flushed 3 point : FVec Ideal S100x5 .f32) (ix2 r d) = result (memBoxes m c) (memScores m c) r d := by
  rw [flushed3_A]
  refine Eq.trans ?_ (out_eq c (hs0_0 point) (hs0_1 point) (hs0_2 point) (hs0_3 point)
    (arg4 := scM0_0) (Memref.isWhole_whole _) (arg5 := scM0_1) (Memref.isWhole_whole _) (arg6 := scM0_2) (Memref.isWhole_whole _) (iblk m c 0 point) (iblk m c 1 point) (iblk m c 2 point) (memBoxes m c) (memScores m c)
    (fun j => ?_) (fun j d => ?_) (fun i d => ?_) r d)
  · rfl
  · exact (congrFun (read_win0 c _) _).trans (v16_at _ j)
  · exact (congrFun (read_win1 c _) _).trans (v15_at _ j d)
  · exact (congrFun (read_win2 c _) _).trans ((v17_at _ i d).trans (congrFun (read_win1 c _) _).symm)

/-- The result array after the run. -/
theorem arrAt_at (r : Fin 100) (d : Fin 5) :
    ((dats m 0 c).arrAt 3 cfg0.N : FVec Ideal S100x5 .f32) (ix2 r d) = result (memBoxes m c) (memScores m c) r d :=
  (congrFun (((read_win3 c _).symm).trans (blocks3 m c point (flush0_3 point))) _).trans (flushed_at m c r d)

/-- Every run of the kernel ends with the specified result, the arguments as launched. -/
theorem run_result (ρ : Dev nD → PrngReg) : θ_run defs (onTc (τ := τ) (main (F := Ideal))) ⟨m, fun _ => 0, ρ⟩ fun r => ∀ c : Dev nD,
      r.2.mem ((c : Thread nD τ).loc main_v18) = (fun y => result (memBoxes m c) (memScores m c) (y 0) (y 1) : FVec Ideal S100x5 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (funext fun y => (congrArg _ (eq_ix2 y)).trans (arrAt_at m c (y 0) (y 1))),
      (h c).2⟩) (run_blocks m ρ)

end Cert.KernelIdeal.Val

end
-- ==== Proof.RefArrays.lean ====
/-
  The reference's whole-array expressions, read at an index: the scores, the positions of the best, their boxes, the boxes
  cut to the image, the pairwise intersection over union, the scores past the threshold.
-/
module

public import proofs.«01_k».proof.Proof.Take
public import proofs.«01_k».proof.Proof.Gen.ReferenceIdeal.Run

@[expose] public section

set_option maxRecDepth 16384

noncomputable section

namespace Cert.ReferenceIdeal.Val

open Idealize.ShloMosaic Idealize.ShloMosaic.TcCoe Idealize.ShloMosaic.Pointwise Idealize.ShloMosaic.StableHlo
open Cert.ReferenceIdeal.Gen Cert.Nms

/-! ## The best candidates -/

/-- The scores as the reference writes them. -/
def refScores (a1 : FVec Ideal S20000 .f32) : FVec Ideal S20000 .f32 :=
  Host.divf (broadcastInDim S20000 ![] bcast_S_S20000 (constant S_ .f32 0x3F800000#32))
    (addf (broadcastInDim S20000 ![] bcast_S_S20000 (constant S_ .f32 0x3F800000#32)) (Host.exp (Host.negf a1)))

/-- An entry of the array of probabilities. -/
theorem refScores_at (a1 : FVec Ideal S20000 .f32) (i : Fin 20000) : refScores a1 (ix1 i) = scoresOf a1 i := by
  unfold refScores scoresOf Cert.Nms.logistic
  pointwise

/-- The scores of the best, in order. -/
def refValues (a1 : FVec Ideal S20000 .f32) : FVec Ideal S1000 .f32 :=
  (Host.topK S1000 0 (FloatOps.cmpfTotal .gt) (refScores a1) sliceFits_S20000_S1000).1

/-- The `j`-th best score. -/
theorem refValues_at (a1 : FVec Ideal S20000 .f32) (j : Fin 1000) : refValues a1 (ix1 j) = topScore (scoresOf a1) j :=
  topScore_of (refScores_at a1) sliceFits_S20000_S1000 j

/-- Their positions as the reference writes them: a column. -/
def refIndex (ii : IVec S1000 32) : IVec S1000x1 32 :=
  broadcastInDim S1000x1 ![0] bcast_S1000_S1000x1_0 (select (cmpi .slt ii (broadcastInDim S1000 ![] bcast_S_S1000 (constantI S_ 32 0#32)))
    (addi ii (broadcastInDim S1000 ![] bcast_S_S1000 (constantI S_ 32 20000#32))) ii)

/-- A position below 2³¹, as a row index of the gather, is itself. -/
theorem refIndex_at (ii : IVec S1000 32) (j : Fin 1000) (p : ℕ) (hp : p < 2 ^ 31) (h : ii (ix1 j) = BitVec.ofNat 32 p) :
    refIndex ii (ix2 j 0) = BitVec.ofNat 32 p := by
  have : refIndex ii (ix2 j 0) = Scalar.select (IntOp.cmpi .slt (ii (ix1 j)) 0#32) (IntOp.addi (ii (ix1 j)) 20000#32) (ii (ix1 j)) := by
    unfold refIndex
    pointwise
  rw [this, h, wrap_ofNat p hp]

/-- Their boxes. -/
def refTop (a0 : FVec Ideal S20000x4 .f32) (a1 : FVec Ideal S20000 .f32) : FVec Ideal S1000x4 .f32 :=
  Host.gather gather_S20000x4_S1000x1_S1000x4_1_0_n_n_0_1_14 a0
    (refIndex (Host.topK S1000 0 (FloatOps.cmpfTotal .gt) (refScores a1) sliceFits_S20000_S1000).2)

/-- An entry of the gathered table: the box of the `j`-th best candidate. -/
theorem refTop_at (a0 : FVec Ideal S20000x4 .f32) (a1 : FVec Ideal S20000 .f32) (j : Fin 1000) (d : Fin 4) :
    refTop a0 a1 (ix2 j d) = topBox (boxesOf a0) (scoresOf a1) j.val d :=
  topBox_of _ rfl rfl rfl rfl rfl a0 (scoresOf a1) _ j d
    (refIndex_at _ j _ (by omega) (topIndex_of (refScores_at a1) sliceFits_S20000_S1000 j))

/-! ## The boxes cut to the image -/

/-- One coordinate, cut to the image's extent `e`. -/
def cut (e : BitVec 32) (v : FVec Ideal S1000 .f32) : FVec Ideal S1000 .f32 :=
  minimumf (broadcastInDim S1000 ![] bcast_S_S1000 (constant S_ .f32 e))
    (maximumf (broadcastInDim S1000 ![] bcast_S_S1000 (constant S_ .f32 0x00000000#32)) v)

/-- The four coordinates of a table of boxes. -/
def coord0 (x : FVec Ideal S1000x4 .f32) : FVec Ideal S1000 .f32 :=
  shapeCast S1000 (extractStridedSlice S1000x1 ![0, 0] x slices_S1000x4_S1000x1_0_0) shapeCasts_S1000x1_S1000

/-- The second column of a table of boxes. -/
def coord1 (x : FVec Ideal S1000x4 .f32) : FVec Ideal S1000 .f32 :=
  shapeCast S1000 (extractStridedSlice S1000x1 ![0, 1] x slices_S1000x4_S1000x1_0_1) shapeCasts_S1000x1_S1000

/-- The third column. -/
def coord2 (x : FVec Ideal S1000x4 .f32) : FVec Ideal S1000 .f32 :=
  shapeCast S1000 (extractStridedSlice S1000x1 ![0, 2] x slices_S1000x4_S1000x1_0_2) shapeCasts_S1000x1_S1000

/-- The fourth column. -/
def coord3 (x : FVec Ideal S1000x4 .f32) : FVec Ideal S1000 .f32 :=
  shapeCast S1000 (extractStridedSlice S1000x1 ![0, 3] x slices_S1000x4_S1000x1_0_3) shapeCasts_S1000x1_S1000

/-- Four coordinates side by side. -/
def join (a b c d : FVec Ideal S1000 .f32) : FVec Ideal S1000x4 .f32 :=
  concatenate S1000x4 1
    [⟨S1000x1, broadcastInDim S1000x1 ![0] bcast_S1000_S1000x1_0 a⟩, ⟨S1000x1, broadcastInDim S1000x1 ![0] bcast_S1000_S1000x1_0 b⟩,
     ⟨S1000x1, broadcastInDim S1000x1 ![0] bcast_S1000_S1000x1_0 c⟩, ⟨S1000x1, broadcastInDim S1000x1 ![0] bcast_S1000_S1000x1_0 d⟩]
    concatenates_S1000x1_S1000x1_S1000x1_S1000x1_S1000x4_d1

/-- The table of boxes, cut to the image. -/
def refClip (x : FVec Ideal S1000x4 .f32) : FVec Ideal S1000x4 .f32 :=
  join (cut 0x44A6A000#32 (coord0 x)) (cut 0x44480000#32 (coord1 x)) (cut 0x44A6A000#32 (coord2 x)) (cut 0x44480000#32 (coord3 x))

/-- An entry of the clipped table. -/
theorem refClip_at (x : FVec Ideal S1000x4 .f32) (b : Fin 4 → EReal) (j : Fin 1000) (hx : ∀ d, x (ix2 j d) = b d) (d : Fin 4) :
    refClip x (ix2 j d) = clip b d := by
  unfold clip
  rw [← hx d]
  unfold refClip join cut coord0 coord1 coord2 coord3
  fin_cases d
  · show _ = min (Ideal.ofBits .f32 0x44A6A000#32) (max 0 (x (ix2 j 0)))
    pointwise
  · show _ = min (Ideal.ofBits .f32 0x44480000#32) (max 0 (x (ix2 j 1)))
    pointwise
  · show _ = min (Ideal.ofBits .f32 0x44A6A000#32) (max 0 (x (ix2 j 2)))
    pointwise
  · show _ = min (Ideal.ofBits .f32 0x44480000#32) (max 0 (x (ix2 j 3)))
    pointwise

/-! ## Intersection over union, for every pair -/

/-- A pair of coordinates of the first box of every pair, and of the second. -/
def firsts (y : FVec Ideal S1000x2 .f32) : FVec Ideal S1000x1000x2 .f32 :=
  broadcastInDim S1000x1000x2 ![0, 1, 2] bcast_S1000x1x2_S1000x1000x2_0_1_2 (broadcastInDim S1000x1x2 ![0, 2] bcast_S1000x2_S1000x1x2_0_2 y)

/-- A table of pairs, repeated so that the second of two candidates selects. -/
def seconds (y : FVec Ideal S1000x2 .f32) : FVec Ideal S1000x1000x2 .f32 :=
  broadcastInDim S1000x1000x2 ![0, 1, 2] bcast_S1x1000x2_S1000x1000x2_0_1_2 (broadcastInDim S1x1000x2 ![1, 2] bcast_S1000x2_S1x1000x2_1_2 y)

/-- An entry of the repetition by the first candidate. -/
theorem firsts_at (y : FVec Ideal S1000x2 .f32) (i j : Fin 1000) (d : Fin 2) : firsts y (ix3 i j d) = y (ix2 i d) := by
  unfold firsts
  pointwise

/-- An entry of the repetition by the second candidate. -/
theorem seconds_at (y : FVec Ideal S1000x2 .f32) (i j : Fin 1000) (d : Fin 2) : seconds y (ix3 i j d) = y (ix2 j d) := by
  unfold seconds
  pointwise

/-- The left top corners, and the right bottom ones. -/
def corner0 (x : FVec Ideal S1000x4 .f32) : FVec Ideal S1000x2 .f32 := extractStridedSlice S1000x2 ![0, 0] x slices_S1000x4_S1000x2_0_0

/-- The lower right corners of a table of boxes. -/
def corner1 (x : FVec Ideal S1000x4 .f32) : FVec Ideal S1000x2 .f32 := extractStridedSlice S1000x2 ![0, 2] x slices_S1000x4_S1000x2_0_2

/-- The sides of every pair's intersection. -/
def sides (x : FVec Ideal S1000x4 .f32) : FVec Ideal S1000x1000x2 .f32 :=
  maximumf (broadcastInDim S1000x1000x2 ![] bcast_S_S1000x1000x2 (constant S_ .f32 0x00000000#32))
    (subf (minimumf (firsts (corner1 x)) (seconds (corner1 x))) (maximumf (firsts (corner0 x)) (seconds (corner0 x))))

/-- The width of the overlap of two boxes. -/
theorem sides0_at (x : FVec Ideal S1000x4 .f32) (i j : Fin 1000) : sides x (ix3 i j 0)
    = max 0 (min (x (ix2 i 2)) (x (ix2 j 2)) - max (x (ix2 i 0)) (x (ix2 j 0))) := by
  unfold sides firsts seconds corner0 corner1
  pointwise

/-- The height of the overlap of two boxes. -/
theorem sides1_at (x : FVec Ideal S1000x4 .f32) (i j : Fin 1000) : sides x (ix3 i j 1)
    = max 0 (min (x (ix2 i 3)) (x (ix2 j 3)) - max (x (ix2 i 1)) (x (ix2 j 1))) := by
  unfold sides firsts seconds corner0 corner1
  pointwise

/-- The intersections' areas. -/
def refInter (y : FVec Ideal S1000x1000x2 .f32) : FVec Ideal S1000x1000 .f32 :=
  mulf (shapeCast S1000x1000 (extractStridedSlice S1000x1000x1 ![0, 0, 0] y slices_S1000x1000x2_S1000x1000x1_0_0_0) shapeCasts_S1000x1000x1_S1000x1000)
    (shapeCast S1000x1000 (extractStridedSlice S1000x1000x1 ![0, 0, 1] y slices_S1000x1000x2_S1000x1000x1_0_0_1) shapeCasts_S1000x1000x1_S1000x1000)

/-- The area of an overlap is its width times its height. -/
theorem refInter_at (y : FVec Ideal S1000x1000x2 .f32) (i j : Fin 1000) : refInter y (ix2 i j) = y (ix3 i j 0) * y (ix3 i j 1) := by
  unfold refInter
  pointwise

/-- The boxes' areas. -/
def refArea (x : FVec Ideal S1000x4 .f32) : FVec Ideal S1000 .f32 :=
  mulf (subf (coord2 x) (coord0 x)) (subf (coord3 x) (coord1 x))

/-- The area of a box. -/
theorem refArea_at (x : FVec Ideal S1000x4 .f32) (j : Fin 1000) :
    refArea x (ix1 j) = (x (ix2 j 2) - x (ix2 j 0)) * (x (ix2 j 3) - x (ix2 j 1)) := by
  unfold refArea coord0 coord1 coord2 coord3
  pointwise

/-- The quotients. -/
def refIou (n : FVec Ideal S1000x1000 .f32) (a : FVec Ideal S1000 .f32) : FVec Ideal S1000x1000 .f32 :=
  Host.divf n (addf (subf (addf
    (broadcastInDim S1000x1000 ![0, 1] bcast_S1000x1_S1000x1000_0_1 (broadcastInDim S1000x1 ![0] bcast_S1000_S1000x1_0 a))
    (broadcastInDim S1000x1000 ![0, 1] bcast_S1x1000_S1000x1000_0_1 (broadcastInDim S1x1000 ![1] bcast_S1000_S1x1000_1 a))) n)
    (broadcastInDim S1000x1000 ![] bcast_S_S1000x1000 (constant S_ .f32 0x3089705F#32)))

/-- The overlap of two boxes over their union. -/
theorem refIou_at (n : FVec Ideal S1000x1000 .f32) (a : FVec Ideal S1000 .f32) (i j : Fin 1000) : refIou n a (ix2 i j)
    = Ideal.div (n (ix2 i j)) (a (ix1 i) + a (ix1 j) - n (ix2 i j) + Ideal.ofBits .f32 0x3089705F#32) := by
  unfold refIou
  pointwise

/-- Intersection over union of every pair of boxes. -/
theorem iou_at (x : FVec Ideal S1000x4 .f32) (i j : Fin 1000) : refIou (refInter (sides x)) (refArea x) (ix2 i j)
    = iou (fun d => x (ix2 i d)) (fun d => x (ix2 j d)) := by
  rw [refIou_at, refInter_at, sides0_at, sides1_at, refArea_at, refArea_at, max_comm (0 : EReal), max_comm (0 : EReal)]
  rfl

/-! ## The scores past the threshold -/

/-- The scores, zero at or below the threshold. -/
def refPass (v : FVec Ideal S1000 .f32) : FVec Ideal S1000 .f32 :=
  mulf v (uitofp .f32 (cmpf .ogt v (broadcastInDim S1000 ![] bcast_S_S1000 (constant S_ .f32 0x3D4CCCCD#32))))

/-- A score that does not pass the threshold becomes zero. -/
theorem refPass_at (v : FVec Ideal S1000 .f32) (j : Fin 1000) : refPass v (ix1 j) = v (ix1 j) * ind (threshold < v (ix1 j)) := by
  rw [← uitofp_bit]
  unfold refPass threshold
  pointwise

end Cert.ReferenceIdeal.Val

end
-- ==== Proof.RefEntry.lean ====
/-
  What the reference holds when its loop begins, in terms of its arguments.
-/
module

public import proofs.«01_k».proof.Proof.RefArrays
public import Idealize.ShloMosaic.Lib.StableHlo.RunRead

@[expose] public section

set_option maxRecDepth 16384

noncomputable section

namespace Cert.ReferenceIdeal.Val

open Idealize.ShloMosaic Idealize.ShloMosaic.TcCoe Idealize.ShloMosaic.Pointwise Idealize.ShloMosaic.StableHlo
open Cert.ReferenceIdeal.Gen Cert.ReferenceIdeal.Value Cert.Nms

variable (V : Valuation τ sig (Elt Ideal))

/-! ## Stretch by stretch -/

/-- The gathered table of boxes, after the first lines. -/
theorem top_read : after hostOps0 V (Proc.devRef .tc main_v12)
    = refTop (V (Proc.devRef .tc main_arg0)) (V (Proc.devRef .tc main_arg1)) := by
  after_reads_simp
  rfl

/-- The sorted scores, after the first lines. -/
theorem values_read : after hostOps0 V (Proc.devRef .tc main_values) = refValues (V (Proc.devRef .tc main_arg1)) := by
  after_reads_simp
  rfl

/-- The first column of the gathered table, clipped. -/
theorem cut0_read : after hostOps0_1 (after hostOps0 V) (Proc.devRef .tc main_v15)
    = cut 0x44A6A000#32 (coord0 (after hostOps0 V (Proc.devRef .tc main_v12))) := by
  after_reads_simp
  rfl

/-- The second column of the gathered table, clipped. -/
theorem cut1_read : after hostOps0_3 (after hostOps0_2 V) (Proc.devRef .tc main_v18)
    = cut 0x44480000#32 (coord1 (V (Proc.devRef .tc main_v12))) := by
  after_reads_simp
  rfl

/-- The third column of the gathered table, clipped. -/
theorem cut2_read : after hostOps0_5 (after hostOps0_4 V) (Proc.devRef .tc main_v21)
    = cut 0x44A6A000#32 (coord2 (V (Proc.devRef .tc main_v12))) := by
  after_reads_simp
  rfl

/-- The fourth column of the gathered table, clipped. -/
theorem cut3_read : after hostOps0_7 (after hostOps0_6 V) (Proc.devRef .tc main_v24)
    = cut 0x44480000#32 (coord3 (V (Proc.devRef .tc main_v12))) := by
  after_reads_simp
  rfl

/-- Part 1 of the lines leaves the gathered table as it was. -/
theorem keepTop1 : after hostOps0_1 V (Proc.devRef .tc main_v12) = V (Proc.devRef .tc main_v12) :=
  after_of_writes_sub hostOps0_1 V hostOps0_1_writes (by decide +kernel)

/-- Part 2 of the lines leaves the gathered table as it was. -/
theorem keepTop2 : after hostOps0_2 V (Proc.devRef .tc main_v12) = V (Proc.devRef .tc main_v12) :=
  after_of_writes_sub hostOps0_2 V hostOps0_2_writes (by decide +kernel)

/-- Part 3 of the lines leaves the gathered table as it was. -/
theorem keepTop3 : after hostOps0_3 V (Proc.devRef .tc main_v12) = V (Proc.devRef .tc main_v12) :=
  after_of_writes_sub hostOps0_3 V hostOps0_3_writes (by decide +kernel)

/-- Part 4 of the lines leaves the gathered table as it was. -/
theorem keepTop4 : after hostOps0_4 V (Proc.devRef .tc main_v12) = V (Proc.devRef .tc main_v12) :=
  after_of_writes_sub hostOps0_4 V hostOps0_4_writes (by decide +kernel)

/-- Part 5 of the lines leaves the gathered table as it was. -/
theorem keepTop5 : after hostOps0_5 V (Proc.devRef .tc main_v12) = V (Proc.devRef .tc main_v12) :=
  after_of_writes_sub hostOps0_5 V hostOps0_5_writes (by decide +kernel)

/-- The contents after the boxes are cut. -/
abbrev afterCuts : Valuation τ sig (Elt Ideal) :=
  after hostOps0_7 (after hostOps0_6 (after hostOps0_5 (after hostOps0_4 (after hostOps0_3 (after hostOps0_2 (after hostOps0_1 (after hostOps0 V)))))))

/-- The four clipped columns are joined to a table. -/
theorem join_read : after hostOps0_8 V (Proc.devRef .tc main_v29)
    = join (V (Proc.devRef .tc main_v15)) (V (Proc.devRef .tc main_v18)) (V (Proc.devRef .tc main_v21)) (V (Proc.devRef .tc main_v24)) := by
  after_reads_simp
  rfl

/-- The table so joined is the gathered one, clipped. -/
theorem clip_read : after hostOps0_8 (afterCuts V) (Proc.devRef .tc main_v29)
    = refClip (refTop (V (Proc.devRef .tc main_arg0)) (V (Proc.devRef .tc main_arg1))) := by
  rw [join_read, ← top_read]
  refine congr (congr (congr (congrArg join ?_) ?_) ?_) ?_
  · rw [← cut0_read]
    exact (after_of_writes_sub hostOps0_7 _ hostOps0_7_writes (by decide +kernel)).trans <|
      (after_of_writes_sub hostOps0_6 _ hostOps0_6_writes (by decide +kernel)).trans <|
      (after_of_writes_sub hostOps0_5 _ hostOps0_5_writes (by decide +kernel)).trans <|
      (after_of_writes_sub hostOps0_4 _ hostOps0_4_writes (by decide +kernel)).trans <|
      (after_of_writes_sub hostOps0_3 _ hostOps0_3_writes (by decide +kernel)).trans <|
      after_of_writes_sub hostOps0_2 _ hostOps0_2_writes (by decide +kernel)
  · refine ((after_of_writes_sub hostOps0_7 _ hostOps0_7_writes (by decide +kernel)).trans <|
      (after_of_writes_sub hostOps0_6 _ hostOps0_6_writes (by decide +kernel)).trans <|
      (after_of_writes_sub hostOps0_5 _ hostOps0_5_writes (by decide +kernel)).trans <|
      (after_of_writes_sub hostOps0_4 _ hostOps0_4_writes (by decide +kernel)).trans <| cut1_read _).trans ?_
    rw [keepTop1]
  · refine ((after_of_writes_sub hostOps0_7 _ hostOps0_7_writes (by decide +kernel)).trans <|
      (after_of_writes_sub hostOps0_6 _ hostOps0_6_writes (by decide +kernel)).trans <| cut2_read _).trans ?_
    rw [keepTop3, keepTop2, keepTop1]
  · refine (cut3_read _).trans ?_
    rw [keepTop5, keepTop4, keepTop3, keepTop2, keepTop1]

/-- The thresholded scores. -/
theorem pass_read : after hostOps0_8 (afterCuts V) (Proc.devRef .tc main_v33) = refPass (refValues (V (Proc.devRef .tc main_arg1))) := by
  after_reads_simp
  rfl

/-- The areas of the clipped boxes. -/
theorem area_read : after hostOps0_8 V (Proc.devRef .tc main_v44) = refArea (after hostOps0_8 V (Proc.devRef .tc main_v29)) := by
  after_reads_simp
  rfl

/-- The sides of all overlaps. -/
theorem sides_read : after hostOps0_9 (after hostOps0_8 V) (Proc.devRef .tc main_v60) = sides (after hostOps0_8 V (Proc.devRef .tc main_v29)) := by
  after_reads_simp
  rfl

/-- The loop is entered with the table of overlaps over unions. -/
theorem iou_read : after hostOps0_10 V (Proc.devRef .tc main_v77_0)
    = refIou (refInter (V (Proc.devRef .tc main_v60))) (V (Proc.devRef .tc main_v44)) := by
  after_reads_simp
  rfl

/-- The loop is entered with the candidates' numbers. -/
theorem iota_read : after hostOps0_10 V (Proc.devRef .tc main_v77_1) = (iotaInDim S1000 32 0 : IVec S1000 32) := by
  after_reads_simp
  rfl

/-- The loop's counter starts at zero. -/
theorem counter_read : after hostOps0_10 V (Proc.devRef .tc main_v77_3) = (constantI S_ 32 0#32 : IVec S_ 32) := by
  after_reads_simp
  rfl

/-- Every candidate's flag starts at true. -/
theorem keep_read : after hostOps0_10 V (Proc.devRef .tc main_v77_4)
    = (broadcastInDim S1000 ![] bcast_S_S1000 (constantI S_ 1 1#1) : IVec S1000 1) := by
  after_reads_simp
  rfl

/-! ## At the loop's entry -/

variable (m : (ℓ : Loc nD τ sig) → Buf (Elt Ideal) ℓ) (c : Dev nD)

/-- The clipped boxes of the best candidates, and their scores past the threshold. -/
abbrev entryBoxes : FVec Ideal S1000x4 .f32 :=
  refClip (refTop (m ((c : Thread nD τ).loc main_arg0)) (m ((c : Thread nD τ).loc main_arg1)))

/-- The thresholded scores of the arguments in memory. -/
abbrev entryPass : FVec Ideal S1000 .f32 := refPass (refValues (m ((c : Thread nD τ).loc main_arg1)))

/-- What the loop is entered with, part by part. -/
theorem entry_eq : entryContents preI m c = after hostOps0_10 (after hostOps0_9 (after hostOps0_8 (afterCuts (launchContents m c)))) := rfl

/-- The overlaps' lines leave the clipped table as it was. -/
theorem keep9_v29 : after hostOps0_9 V (Proc.devRef .tc main_v29) = V (Proc.devRef .tc main_v29) :=
  after_of_writes_sub hostOps0_9 V hostOps0_9_writes (by decide +kernel)

/-- The lines after them leave the clipped table as it was. -/
theorem keep10_v29 : after hostOps0_10 V (Proc.devRef .tc main_v29) = V (Proc.devRef .tc main_v29) :=
  after_of_writes_sub hostOps0_10 V hostOps0_10_writes (by decide +kernel)

/-- The overlaps' lines leave the thresholded scores as they were. -/
theorem keep9_v33 : after hostOps0_9 V (Proc.devRef .tc main_v33) = V (Proc.devRef .tc main_v33) :=
  after_of_writes_sub hostOps0_9 V hostOps0_9_writes (by decide +kernel)

/-- The lines after them leave the thresholded scores as they were. -/
theorem keep10_v33 : after hostOps0_10 V (Proc.devRef .tc main_v33) = V (Proc.devRef .tc main_v33) :=
  after_of_writes_sub hostOps0_10 V hostOps0_10_writes (by decide +kernel)

/-- The overlaps' lines leave the areas as they were. -/
theorem keep9_v44 : after hostOps0_9 V (Proc.devRef .tc main_v44) = V (Proc.devRef .tc main_v44) :=
  after_of_writes_sub hostOps0_9 V hostOps0_9_writes (by decide +kernel)

/-- On entry to the loop the clipped table is that of the arguments. -/
theorem entry_v29 : entryContents preI m c (Proc.devRef .tc main_v29) = entryBoxes m c := by
  rw [entry_eq, keep10_v29, keep9_v29]
  exact clip_read _

/-- On entry to the loop the thresholded scores are those of the arguments. -/
theorem entry_v33 : entryContents preI m c (Proc.devRef .tc main_v33) = entryPass m c := by
  rw [entry_eq, keep10_v33, keep9_v33]
  exact pass_read _

/-- On entry to the loop the table of overlaps over unions is that of the clipped boxes. -/
theorem entry_iou : entryContents preI m c (Proc.devRef .tc main_v77_0)
    = refIou (refInter (sides (entryBoxes m c))) (refArea (entryBoxes m c)) := by
  rw [entry_eq, iou_read, sides_read, keep9_v44, area_read, clip_read]

/-- On entry to the loop the candidates' numbers are there. -/
theorem entry_iota : entryContents preI m c (Proc.devRef .tc main_v77_1) = (iotaInDim S1000 32 0 : IVec S1000 32) := by
  rw [entry_eq, iota_read]

/-- On entry to the loop the counter is zero. -/
theorem entry_counter : entryContents preI m c (Proc.devRef .tc main_v77_3) = (constantI S_ 32 0#32 : IVec S_ 32) := by
  rw [entry_eq, counter_read]

/-- On entry to the loop every flag is true. -/
theorem entry_keep : entryContents preI m c (Proc.devRef .tc main_v77_4)
    = (broadcastInDim S1000 ![] bcast_S_S1000 (constantI S_ 1 1#1) : IVec S1000 1) := by
  rw [entry_eq, keep_read]

end Cert.ReferenceIdeal.Val

end
-- ==== Proof.RefLoop.lean ====
/-
  The reference's loop: trip `k` visits candidate `k`. After `n` trips the flags say who is still kept.
-/
module

public import proofs.«01_k».proof.Proof.RefEntry
public import Idealize.ShloMosaic.Lib.WordCmp

@[expose] public section

set_option maxRecDepth 16384

noncomputable section

namespace Cert.ReferenceIdeal.Val

open Idealize.ShloMosaic Idealize.ShloMosaic.TcCoe Idealize.ShloMosaic.Pointwise Idealize.ShloMosaic.StableHlo
open Cert.ReferenceIdeal.Gen Cert.ReferenceIdeal.Value Cert.Nms

/-- A row of a square table, cut out at a position. -/
theorem row_at (x : FVec Ideal S1000x1000 .f32) (start : Fin 2 → ℤ) (k : Fin 1000) (h0 : start 0 = (k.val : ℤ)) (h1 : start 1 = 0)
    (h : S1000x1000.Slices (fun _ => 0) S1x1000) (z : Fin 1) (j : Fin 1000) :
    Host.dynamicSlice S1x1000 x start h (ix2 z j) = x (ix2 k j) := by
  have e0 := Host.clampedStart_of_le (s := S1000x1000) (t := S1x1000) h.1 start 0 k.val h0 (by show k.val + 1 ≤ 1000; omega)
  have e1 := Host.clampedStart_of_le (s := S1000x1000) (t := S1x1000) h.1 start 1 0 h1 (by show 0 + 1000 ≤ 1000; omega)
  unfold Host.dynamicSlice
  refine congrArg x (funext fun a => Fin.ext ?_)
  match a with
  | ⟨0, _⟩ =>
    show Host.clampedStart S1000x1000 S1x1000 h.1 start 0 + z.val = k.val
    rw [e0]; omega
  | ⟨1, _⟩ =>
    show Host.clampedStart S1000x1000 S1x1000 h.1 start 1 + j.val = j.val
    rw [e1]; omega

/-- One flag, cut out at a position. -/
theorem flag_at (x : IVec S1000 1) (start : Fin 1 → ℤ) (k : Fin 1000) (h0 : start 0 = (k.val : ℤ))
    (h : S1000.Slices (fun _ => 0) S1) (z : Fin 1) : Host.dynamicSlice S1 x start h (ix1 z) = x (ix1 k) := by
  have e0 := Host.clampedStart_of_le (s := S1000) (t := S1) h.1 start 0 k.val h0 (by show k.val + 1 ≤ 1000; omega)
  unfold Host.dynamicSlice
  refine congrArg x (funext fun a => Fin.ext ?_)
  match a with
  | ⟨0, _⟩ =>
    show Host.clampedStart S1000 S1 h.1 start 0 + z.val = k.val
    rw [e0]; omega

/-- The trip counter as a position: wrapping changes nothing. -/
theorem wrap_toInt (k : Fin 1000) (z : BitVec 32) :
    (Scalar.select (IntOp.cmpi .slt (BitVec.ofNat 32 k.val) 0#32) z (BitVec.ofNat 32 k.val)).toInt = (k.val : ℤ) := by
  rw [wrap_ofNat k.val (by omega)]
  exact WordCmp.toInt_ofNat_of_lt (by omega)

/-- The flags after a visit, in terms of the row and the flag that the visit reads. -/
def visitFlags (keep : IVec S1000 1) (row : FVec Ideal S1x1000 .f32) (iota : IVec S1000 32) (ctr : IVec S_ 32) (flag : IVec S1 1) : IVec S1000 1 :=
  andi keep (noti (andi (andi (cmpf .ogt (shapeCast S1000 row shapeCasts_S1x1000_S1000)
      (broadcastInDim S1000 ![] bcast_S_S1000 (constant S_ .f32 0x3F000000#32)))
    (cmpi .sgt iota (broadcastInDim S1000 ![] bcast_S_S1000 ctr)))
    (broadcastInDim S1000 ![] bcast_S_S1000 (shapeCast S_ flag shapeCasts_S1_S_))))

/-- One entry of the flags after one pass of the loop. -/
theorem visitFlags_at (keep : IVec S1000 1) (row : FVec Ideal S1x1000 .f32) (iota : IVec S1000 32) (w : BitVec 32) (flag : IVec S1 1)
    (j : Fin 1000) : visitFlags keep row iota (fun _ => w) flag (ix1 j)
      = IntOp.andi (keep (ix1 j)) (~~~IntOp.andi (IntOp.andi (BitVec.ofBool (decide (Ideal.ofBits .f32 0x3F000000#32 < row (ix2 0 j))))
          (IntOp.cmpi .sgt (iota (ix1 j)) w)) (flag (ix1 0))) := by
  unfold visitFlags
  pointwise

/-- A visit's flags from flags that say who is kept. -/
theorem bit_visit (P Q R S : Prop) [Decidable P] [Decidable Q] [Decidable R] [Decidable S] :
    IntOp.andi (BitVec.ofBool (decide P)) (~~~IntOp.andi (IntOp.andi (BitVec.ofBool (decide Q)) (BitVec.ofBool (decide R))) (BitVec.ofBool (decide S)))
      = BitVec.ofBool (decide (P ∧ ¬((Q ∧ R) ∧ S))) := by
  by_cases hP : P <;> by_cases hQ : Q <;> by_cases hR : R <;> by_cases hS : S <;> simp [hP, hQ, hR, hS, IntOp.andi]

section Trip

variable (M : ℕ → ℕ → Prop) (x : FVec Ideal S1000x1000 .f32)
  (hM : ∀ i j : Fin 1000, M i.val j.val ↔ Ideal.ofBits .f32 0x3F000000#32 < x (ix2 i j) ∧ i.val < j.val)

open Classical in
include hM in
/-- One visit. -/
theorem visit_at (k : Fin 1000) (keep : IVec S1000 1) (hk : ∀ j : Fin 1000, keep (ix1 j) = BitVec.ofBool (decide (kept M k.val j.val)))
    (s2 : Fin 2 → ℤ) (h0 : s2 0 = (k.val : ℤ)) (h1 : s2 1 = 0) (s1 : Fin 1 → ℤ) (h2 : s1 0 = (k.val : ℤ))
    (hs2 : S1000x1000.Slices (fun _ => 0) S1x1000) (hs1 : S1000.Slices (fun _ => 0) S1) (j : Fin 1000) :
    visitFlags keep (Host.dynamicSlice S1x1000 x s2 hs2) (iotaInDim S1000 32 0) (fun _ => BitVec.ofNat 32 k.val) (Host.dynamicSlice S1 keep s1 hs1) (ix1 j)
      = BitVec.ofBool (decide (kept M (k.val + 1) j.val)) := by
  have hi : IntOp.cmpi .sgt ((iotaInDim S1000 32 0 : IVec S1000 32) (ix1 j)) (BitVec.ofNat 32 k.val) = BitVec.ofBool (decide (k.val < j.val)) :=
    WordCmp.cmpi_sgt_ofNat (w := 32) (a := j.val) (b := k.val) (by omega) (by omega)
  rw [visitFlags_at, row_at x s2 k h0 h1, flag_at keep s1 k h2, hk, hk, hi, bit_visit]
  refine congrArg BitVec.ofBool (decide_eq_decide.mpr ?_)
  rw [kept_succ, hM k j]

open Classical in
include hM in
/-- One trip of the loop is a visit. -/
theorem trip_at (X : Valuation τ sig (Elt Ideal)) (k : Fin 1000) (hx : X (Proc.devRef .tc main_v77_0) = x)
    (hi : X (Proc.devRef .tc main_v77_1) = (iotaInDim S1000 32 0 : IVec S1000 32))
    (hc : X (Proc.devRef .tc main_v77_3) = (fun _ => BitVec.ofNat 32 k.val : IVec S_ 32))
    (hk : ∀ j : Fin 1000, (X (Proc.devRef .tc main_v77_4) : IVec S1000 1) (ix1 j) = BitVec.ofBool (decide (kept M k.val j.val))) (j : Fin 1000) :
    (step_main_v77_4 X : IVec S1000 1) (ix1 j) = BitVec.ofBool (decide (kept M (k.val + 1) j.val)) := by
  unfold step_main_v77_4 res_main_while0b_v90
  rw [hx, hi, hc]
  exact visit_at M x hM k _ hk _ (wrap_toInt k _) rfl _ (wrap_toInt k _) sliceFits_S1000x1000_S1x1000 sliceFits_S1000_S1 j

variable (m : (ℓ : Loc nD τ sig) → Buf (Elt Ideal) ℓ) (c : Dev nD)

/-- The table and the positions do not change from trip to trip. -/
theorem atK_table : ∀ n, atK m n c (Proc.devRef .tc main_v77_0) = entryContents preI m c (Proc.devRef .tc main_v77_0)
  | 0 => rfl
  | n + 1 => ((trip_agree (atK m n c) main_v77_0 (by decide)).trans (STEP_main_v77_0 _)).trans (atK_table n)

/-- No pass changes the candidates' numbers. -/
theorem atK_iota : ∀ n, atK m n c (Proc.devRef .tc main_v77_1) = entryContents preI m c (Proc.devRef .tc main_v77_1)
  | 0 => rfl
  | n + 1 => ((trip_agree (atK m n c) main_v77_1 (by decide)).trans (STEP_main_v77_1 _)).trans (atK_iota n)

/-- The loop's own counter before trip `n` is `n`. -/
theorem atK_counter : ∀ n, atK m n c (Proc.devRef .tc main_v77_3) = (fun _ => BitVec.ofNat 32 n : IVec S_ 32)
  | 0 => entry_counter m c
  | n + 1 => by
    refine ((trip_agree (atK m n c) main_v77_3 (by decide)).trans (STEP_main_v77_3 _)).trans ?_
    unfold step_main_v77_3
    rw [atK_counter n]
    funext _
    show BitVec.ofNat 32 n + 1#32 = BitVec.ofNat 32 (n + 1)
    exact (BitVec.ofNat_add n 1).symm

open Classical in
/-- Before trip `n` the flags say who is kept after `n` visits. -/
theorem atK_flags (hx : entryContents preI m c (Proc.devRef .tc main_v77_0) = x)
    (hM : ∀ i j : Fin 1000, M i.val j.val ↔ Ideal.ofBits .f32 0x3F000000#32 < x (ix2 i j) ∧ i.val < j.val) :
    ∀ n, n ≤ 1000 → ∀ j : Fin 1000, (atK m n c (Proc.devRef .tc main_v77_4) : IVec S1000 1) (ix1 j) = BitVec.ofBool (decide (kept M n j.val))
  | 0, _, j => by
    rw [decide_eq_true (kept_zero (M := M) j.val)]
    exact congrFun (entry_keep m c) (ix1 j)
  | n + 1, hn, j => by
    refine (congrFun ((trip_agree (atK m n c) main_v77_4 (by decide)).trans (STEP_main_v77_4 _)) (ix1 j)).trans ?_
    exact trip_at M x hM (atK m n c) ⟨n, by omega⟩ ((atK_table m c n).trans hx) ((atK_iota m c n).trans (entry_iota m c)) (atK_counter m c n)
      (atK_flags hx hM n (by omega)) j

end Trip

/-! ## What the loop leaves alone -/

variable (m : (ℓ : Loc nD τ sig) → Buf (Elt Ideal) ℓ) (c : Dev nD)

/-- A buffer that neither the condition nor the body writes. -/
theorem atK_kept (r : Ref sig .tc) (h1 : r ∉ condOps_W) (h2 : r ∉ while0Ops0_W) :
    ∀ n, atK m n c (Proc.devRef .tc r) = entryContents preI m c (Proc.devRef .tc r)
  | 0 => rfl
  | n + 1 => (after_of_writes_sub while0Ops0 _ while0Ops0_writes h2).trans <|
      (after_of_writes_sub condOps _ condOps_writes h1).trans (atK_kept r h1 h2 n)

end Cert.ReferenceIdeal.Val

end
-- ==== Proof.RefValue.lean ====
/-
  The reference's result: what every run of it leaves in the result array.
-/
module

public import proofs.«01_k».proof.Proof.RefLoop
public import Idealize.ShloMosaic.Lib.Quiescent

@[expose] public section

set_option maxRecDepth 16384

noncomputable section

namespace Cert.ReferenceIdeal.Val

open Idealize.ShloMosaic Idealize.ShloMosaic.TcCoe Idealize.ShloMosaic.Pointwise Idealize.ShloMosaic.StableHlo Idealize.SL.Sem
open Cert.ReferenceIdeal.Gen Cert.ReferenceIdeal.Value Cert.Nms

/-! ## The lines after the loop -/

/-- The final scores as the reference writes them. -/
def refFinal (pass : FVec Ideal S1000 .f32) (keep : IVec S1000 1) : FVec Ideal S1000 .f32 := mulf pass (uitofp .f32 keep)

/-- A candidate's final score: zero unless its flag is true. -/
theorem refFinal_at (pass : FVec Ideal S1000 .f32) (keep : IVec S1000 1) (j : Fin 1000) :
    refFinal pass keep (ix1 j) = pass (ix1 j) * FloatOps.uitofp (F := Ideal) .f32 (keep (ix1 j)) := rfl

/-- The positions of the best final scores: a column. -/
def refChosen (ii : IVec S100 32) : IVec S100x1 32 :=
  broadcastInDim S100x1 ![0] bcast_S100_S100x1_0 (select (cmpi .slt ii (broadcastInDim S100 ![] bcast_S_S100 (constantI S_ 32 0#32)))
    (addi ii (broadcastInDim S100 ![] bcast_S_S100 (constantI S_ 32 1000#32))) ii)

/-- A position below 2³¹, as a row index of the gather, is itself. -/
theorem refChosen_at (ii : IVec S100 32) (r : Fin 100) (p : ℕ) (hp : p < 2 ^ 31) (h : ii (ix1 r) = BitVec.ofNat 32 p) :
    refChosen ii (ix2 r 0) = BitVec.ofNat 32 p := by
  have : refChosen ii (ix2 r 0) = Scalar.select (IntOp.cmpi .slt (ii (ix1 r)) 0#32) (IntOp.addi (ii (ix1 r)) 1000#32) (ii (ix1 r)) := by
    unfold refChosen
    pointwise
  rw [this, h, wrap_ofNat p hp]

/-- Four columns, then a fifth. -/
def beside (a : FVec Ideal S100x4 .f32) (b : FVec Ideal S100 .f32) : FVec Ideal S100x5 .f32 :=
  concatenate S100x5 1 [⟨S100x4, a⟩, ⟨S100x1, broadcastInDim S100x1 ![0] bcast_S100_S100x1_0 b⟩] concatenates_S100x4_S100x1_S100x5_d1

/-- An entry of boxes beside scores. -/
theorem beside_at (a : FVec Ideal S100x4 .f32) (b : FVec Ideal S100 .f32) (r : Fin 100) (d : Fin 5) :
    beside a b (ix2 r d) = if h : d.val < 4 then a (ix2 r ⟨d.val, h⟩) else b (ix1 r) := by
  unfold beside
  fin_cases d
  · show _ = a (ix2 r 0)
    pointwise
  · show _ = a (ix2 r 1)
    pointwise
  · show _ = a (ix2 r 2)
    pointwise
  · show _ = a (ix2 r 3)
    pointwise
  · show _ = b (ix1 r)
    pointwise

/-- The result as the reference writes it. -/
def refOut (boxes : FVec Ideal S1000x4 .f32) (fs : FVec Ideal S1000 .f32) : FVec Ideal S100x5 .f32 :=
  beside (Host.gather gather_S1000x4_S100x1_S100x4_1_0_n_n_0_1_14 boxes
      (refChosen (Host.topK S100 0 (FloatOps.cmpfTotal .gt) fs sliceFits_S1000_S100).2))
    (Host.topK S100 0 (FloatOps.cmpfTotal .gt) fs sliceFits_S1000_S100).1

/-- The last lines, given the clipped boxes and the final scores, give the specification's result. -/
theorem refOut_at (box : Fin 20000 → Fin 4 → EReal) (s : Fin 20000 → EReal) (boxes : FVec Ideal S1000x4 .f32) (fs : FVec Ideal S1000 .f32)
    (hb : ∀ (j : Fin 1000) (d : Fin 4), boxes (ix2 j d) = clip (topBox box s j.val) d)
    (hf : ∀ j : Fin 1000, fs (ix1 j) = finalScore box s j) (r : Fin 100) (d : Fin 5) : refOut boxes fs (ix2 r d) = result box s r d := by
  have e : col fs = finalScore box s := funext hf
  unfold refOut
  rw [beside_at]
  unfold result
  by_cases h : d.val < 4
  · rw [dif_pos h, dif_pos h, ← hb]
    refine rows_at _ rfl rfl rfl rfl rfl (by decide) boxes _ r ⟨d.val, h⟩ _ (refChosen_at _ r _ (by omega) ?_)
    refine (topK_index (by decide) fs sliceFits_S1000_S100 r).trans ?_
    rw [e]
    rfl
  · rw [dif_neg h, dif_neg h]
    refine (topK_value (by decide) fs sliceFits_S1000_S100 r).trans ?_
    rw [e]
    rfl

variable (V : Valuation τ sig (Elt Ideal))

/-- The chosen rows of the clipped table. -/
theorem rows_read : upto hostOps0_11 V 14 (Proc.devRef .tc main_v86)
    = (Host.gather gather_S1000x4_S100x1_S100x4_1_0_n_n_0_1_14 (V (Proc.devRef .tc main_v29))
      (refChosen (Host.topK S100 0 (FloatOps.cmpfTotal .gt) (refFinal (V (Proc.devRef .tc main_v33)) (V (Proc.devRef .tc main_v77_4)))
        sliceFits_S1000_S100).2) : FVec Ideal S100x4 .f32) := by
  after_reads_simp
  rfl

/-- The greatest final scores, as a column. -/
theorem best_read : upto hostOps0_11 V 14 (Proc.devRef .tc main_v87)
    = (broadcastInDim S100x1 ![0] bcast_S100_S100x1_0
      (Host.topK S100 0 (FloatOps.cmpfTotal .gt) (refFinal (V (Proc.devRef .tc main_v33)) (V (Proc.devRef .tc main_v77_4)))
        sliceFits_S1000_S100).1 : FVec Ideal S100x1 .f32) := by
  after_reads_simp
  rfl

/-- The result array, by the lines after the loop. -/
theorem out_read : after hostOps0_11 V (Proc.devRef .tc main_v88)
    = refOut (V (Proc.devRef .tc main_v29)) (refFinal (V (Proc.devRef .tc main_v33)) (V (Proc.devRef .tc main_v77_4))) := by
  after_reads_simp
  exact congrArg₂ (fun (a : FVec Ideal S100x4 .f32) (b : FVec Ideal S100x1 .f32) =>
    concatenate S100x5 1 [⟨S100x4, a⟩, ⟨S100x1, b⟩] concatenates_S100x4_S100x1_S100x5_d1) (rows_read V) (best_read V)

/-! ## The run -/

variable (m : (ℓ : Loc nD τ sig) → Buf (Elt Ideal) ℓ) (c : Dev nD)

/-- The boxes and the scores of the launch memory. -/
abbrev memBoxes : Fin 20000 → Fin 4 → EReal := boxesOf (m ((c : Thread nD τ).loc main_arg0))

/-- The probabilities of the scores in memory. -/
abbrev memScores : Fin 20000 → EReal := scoresOf (m ((c : Thread nD τ).loc main_arg1))

/-- An entry of the clipped table: the clipped box of the `j`-th best candidate. -/
theorem entryBoxes_at (j : Fin 1000) (d : Fin 4) : entryBoxes m c (ix2 j d) = clip (topBox (memBoxes m c) (memScores m c) j.val) d :=
  refClip_at _ _ j (fun d => refTop_at _ _ j d) d

/-- The overlap test on the reference's table is the specification's suppression. -/
theorem suppresses_iff (i j : Fin 1000) : suppresses (topBox (memBoxes m c) (memScores m c)) i.val j.val
    ↔ Ideal.ofBits .f32 0x3F000000#32 < refIou (refInter (sides (entryBoxes m c))) (refArea (entryBoxes m c)) (ix2 i j) ∧ i.val < j.val := by
  rw [iou_at, funext (entryBoxes_at m c i), funext (entryBoxes_at m c j)]
  rfl

/-- The contents when the loop has ended. -/
abbrev atEnd : Valuation τ sig (Elt Ideal) := after condOps (atK m 1000 c)

/-- After the loop the clipped table is as on entry. -/
theorem end_v29 : atEnd m c (Proc.devRef .tc main_v29) = entryBoxes m c :=
  (after_of_writes_sub condOps _ condOps_writes (by decide +kernel)).trans <|
    (atK_kept m c main_v29 (by decide +kernel) (by decide +kernel) 1000).trans (entry_v29 m c)

/-- After the loop the thresholded scores are as on entry. -/
theorem end_v33 : atEnd m c (Proc.devRef .tc main_v33) = entryPass m c :=
  (after_of_writes_sub condOps _ condOps_writes (by decide +kernel)).trans <|
    (atK_kept m c main_v33 (by decide +kernel) (by decide +kernel) 1000).trans (entry_v33 m c)

open Classical in
/-- After the loop a candidate's flag says whether it survives. -/
theorem end_flags (j : Fin 1000) : (atEnd m c (Proc.devRef .tc main_v77_4) : IVec S1000 1) (ix1 j)
    = BitVec.ofBool (decide (survives (memBoxes m c) (memScores m c) j)) := by
  refine (congrFun (after_of_writes_sub (r := main_v77_4) condOps (atK m 1000 c) condOps_writes (by decide +kernel)) (ix1 j)).trans ?_
  refine (atK_flags (suppresses (topBox (memBoxes m c) (memScores m c))) _ m c (entry_iou m c) (suppresses_iff m c) 1000 (le_refl _) j).trans ?_
  exact congrArg BitVec.ofBool (decide_eq_decide.mpr
    (kept_iff_survives _ _ _ (lt_of_suppresses _) (fun _ _ _ _ => Iff.rfl) 1000 j (le_refl _)))

/-- After the loop a candidate's final score is the specification's. -/
theorem end_final (j : Fin 1000) : refFinal (atEnd m c (Proc.devRef .tc main_v33)) (atEnd m c (Proc.devRef .tc main_v77_4)) (ix1 j)
    = finalScore (memBoxes m c) (memScores m c) j := by
  rw [refFinal_at, end_flags, uitofp_bit, end_v33]
  unfold entryPass
  rw [refPass_at, refValues_at]
  rfl

/-- The result array at the end of the run is the specification's result. -/
theorem final_out : finalContents condOps preI bodyI postI 1000 m c (Proc.devRef .tc main_v88)
    = (fun y => result (memBoxes m c) (memScores m c) (y 0) (y 1) : FVec Ideal S100x5 .f32) := by
  refine (out_read (atEnd m c)).trans (funext fun y => (congrArg _ (eq_ix2 y)).trans ?_)
  exact refOut_at _ _ _ _ (fun j d => (congrFun (end_v29 m c) _).trans (entryBoxes_at m c j d)) (end_final m c) (y 0) (y 1)

/-- No line of the reference writes an argument. -/
theorem final_kept (r : Ref sig .tc) (hpre : r ∉ hostOps0_W ++ hostOps0_1_W ++ hostOps0_2_W ++ hostOps0_3_W ++ hostOps0_4_W ++ hostOps0_5_W
      ++ hostOps0_6_W ++ hostOps0_7_W ++ hostOps0_8_W ++ hostOps0_9_W ++ hostOps0_10_W ++ condOps_W ++ while0Ops0_W)
    (hpost : after hostOps0_11 (atEnd m c) (Proc.devRef .tc r) = atEnd m c (Proc.devRef .tc r)) :
    finalContents condOps preI bodyI postI 1000 m c (Proc.devRef .tc r) = m ((c : Thread nD τ).loc r) := by
  simp only [List.mem_append, not_or] at hpre
  obtain ⟨⟨⟨⟨⟨⟨⟨⟨⟨⟨⟨⟨h0, h1⟩, h2⟩, h3⟩, h4⟩, h5⟩, h6⟩, h7⟩, h8⟩, h9⟩, h10⟩, hc⟩, hw⟩ := hpre
  refine hpost.trans ((after_of_writes_sub condOps _ condOps_writes hc).trans ((atK_kept m c r hc hw 1000).trans ?_))
  rw [entry_eq]
  exact (after_of_writes_sub hostOps0_10 _ hostOps0_10_writes h10).trans <|
    (after_of_writes_sub hostOps0_9 _ hostOps0_9_writes h9).trans <|
    (after_of_writes_sub hostOps0_8 _ hostOps0_8_writes h8).trans <|
    (after_of_writes_sub hostOps0_7 _ hostOps0_7_writes h7).trans <|
    (after_of_writes_sub hostOps0_6 _ hostOps0_6_writes h6).trans <|
    (after_of_writes_sub hostOps0_5 _ hostOps0_5_writes h5).trans <|
    (after_of_writes_sub hostOps0_4 _ hostOps0_4_writes h4).trans <|
    (after_of_writes_sub hostOps0_3 _ hostOps0_3_writes h3).trans <|
    (after_of_writes_sub hostOps0_2 _ hostOps0_2_writes h2).trans <|
    (after_of_writes_sub hostOps0_1 _ hostOps0_1_writes h1).trans <|
    after_of_writes_sub hostOps0 _ hostOps0_writes h0

/-- The lines after the loop leave the boxes argument as it was. -/
theorem post_arg0 (V : Valuation τ sig (Elt Ideal)) : after hostOps0_11 V (Proc.devRef .tc main_arg0) = V (Proc.devRef .tc main_arg0) := by
  after_reads_simp

/-- The lines after the loop leave the scores argument as it was. -/
theorem post_arg1 (V : Valuation τ sig (Elt Ideal)) : after hostOps0_11 V (Proc.devRef .tc main_arg1) = V (Proc.devRef .tc main_arg1) := by
  after_reads_simp

/-- Every run of the reference ends with the specified result, the arguments as launched. -/
theorem run_result (ρ : Dev nD → PrngReg) : θ_run (defs (F := Ideal)) (onTc (τ := τ) (main (F := Ideal))) ⟨m, fun _ => 0, ρ⟩ fun r => ∀ c : Dev nD,
      r.2.mem ((c : Thread nD τ).loc main_v88) = (fun y => result (memBoxes m c) (memScores m c) (y 0) (y 1) : FVec Ideal S100x5 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c main_v88 rfl).trans (final_out m c),
      (h c main_arg0 rfl).trans (final_kept m c main_arg0 (by decide +kernel) (post_arg0 _)),
      (h c main_arg1 rfl).trans (final_kept m c main_arg1 (by decide +kernel) (post_arg1 _))⟩) (run_fold m ρ)

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, keeps its arguments, and every semaphore counter ends at zero: it has no semaphores. -/
theorem reference_frame : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Val.run_result m ρ)

/-- From memories that agree on the boxes and the scores, kernel and reference both end with the same array of a
    hundred boxes and scores: each is `Cert.Nms.result` of those arguments. -/
theorem same_result : algebraic_KernelIdeal_ReferenceIdeal (hKernelIdeal := Cert.KernelIdeal.Gen.facts)
    (hReferenceIdeal := Cert.ReferenceIdeal.Gen.facts) := fun m g m' g' _ hagree =>
  ⟨_, Cert.KernelIdeal.Val.run_result m g,
    (θ_run _ _ _).mono (fun r h c => ⟨(h c).1.trans (by
      have hb : Cert.ReferenceIdeal.Val.memBoxes m' c = Cert.KernelIdeal.Val.memBoxes m c :=
        congrArg Cert.Nms.boxesOf (hagree c).1
      have hs : Cert.ReferenceIdeal.Val.memScores m' c = Cert.KernelIdeal.Val.memScores m c :=
        congrArg Cert.Nms.scoresOf (hagree c).2
      rw [hb, hs]), (h c).2⟩) (Cert.ReferenceIdeal.Val.run_result m' g')⟩

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_result⟩

end Cert.Proof

end
